-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_physical [hPre_physical : Cert.Pre_physical.Facts] (m : (ℓ : Loc Cert.KernelIdeal.nD Cert.KernelIdeal.τ Cert.KernelIdeal.sig) → Buf (Elt Ideal) ℓ) : Prop :=
  ∀ c : Dev Cert.KernelIdeal.nD,
    (Cert.Pre_physical.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_physical.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_physical.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_physical.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_physical.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_physical.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_physical [hPre_physical : Cert.Pre_physical.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_physical.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_physical.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_physical.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_physical.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_physical.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_physical.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_physical [hKernelIdeal : Cert.KernelIdeal.Facts] [hPre_physical : Cert.Pre_physical.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_physical m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_physical [hReferenceIdeal : Cert.ReferenceIdeal.Facts] [hPre_physical : Cert.Pre_physical.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_physical m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_physical [hKernelIdeal : Cert.KernelIdeal.Facts] [hReferenceIdeal : Cert.ReferenceIdeal.Facts] [hPre_physical : Cert.Pre_physical.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_physical m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v318) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_physical : Cert.Pre_physical.Facts),
    quiescent_Kernel (hKernel := hKernel)
    ∧ quiescent_KernelIdeal (hKernelIdeal := hKernelIdeal)
    ∧ quiescent_KernelIdeal_pre_physical (hKernelIdeal := hKernelIdeal) (hPre_physical := hPre_physical)
    ∧ quiescent_ReferenceIdeal (hReferenceIdeal := hReferenceIdeal)
    ∧ quiescent_ReferenceIdeal_pre_physical (hReferenceIdeal := hReferenceIdeal) (hPre_physical := hPre_physical)
    ∧ preserves_Kernel_KernelIdeal
    ∧ algebraic_KernelIdeal_ReferenceIdeal_pre_physical (hKernelIdeal := hKernelIdeal) (hReferenceIdeal := hReferenceIdeal) (hPre_physical := hPre_physical)
-- ==== Pre_physical.lean ====
abbrev S64x2 : Shape := ⟨2, ![64, 2]⟩
abbrev S2000000 : Shape := ⟨1, ![2000000]⟩
abbrev S2000000x2 : Shape := ⟨2, ![2000000, 2]⟩
abbrev S2000000x4 : Shape := ⟨2, ![2000000, 4]⟩
abbrev S64 : Shape := ⟨1, ![64]⟩
abbrev S_ : Shape := ⟨0, ![]⟩

class Facts : Prop where
  bcast_S_S64x2 : S_.BroadcastsInDim S64x2 (![] : Fin 0 → Fin S64x2.rank)
  bcast_S_S2000000 : S_.BroadcastsInDim S2000000 (![] : Fin 0 → Fin S2000000.rank)
  bcast_S_S2000000x4 : S_.BroadcastsInDim S2000000x4 (![] : Fin 0 → Fin S2000000x4.rank)

variable [Facts]

def fn_part1 {F : FTy → Type} [FloatOps F] (main_arg4 : FVec F S2000000 .f32) (main_arg8 : FVec F S2000000x4 .f32) (main_v2 : IVec S64x2 1) (main_v5 : IVec S64x2 1) (main_v10 : IVec S2000000 1) (main_v15 : IVec S2000000 1) (main_v16 : FVec F S2000000 .f32) : IVec S64x2 1 × IVec S64x2 1 × IVec S2000000 1 × IVec S2000000 1 × IVec S2000000 1 × IVec S2000000x4 1 :=
  let main_v17 : IVec S2000000 1 := cmpf .ogt main_arg4 main_v16
  let main_cst_5 : FVec F S_ .f32 := constant S_ .f32 0x7F800000#32
  let main_v18 : FVec F S2000000 .f32 := broadcastInDim S2000000 ![] bcast_S_S2000000 main_cst_5
  let main_v19 : IVec S2000000 1 := cmpf .olt main_arg4 main_v18
  let main_v20 : IVec S2000000 1 := andi main_v17 main_v19
  let main_cst_6 : FVec F S_ .f32 := constant S_ .f32 0x00000000#32
  let main_v21 : FVec F S2000000x4 .f32 := broadcastInDim S2000000x4 ![] bcast_S_S2000000x4 main_cst_6
  let main_v22 : IVec S2000000x4 1 := cmpf .oge main_arg8 main_v21
  let main_cst_7 : FVec F S_ .f32 := constant S_ .f32 0x7F800000#32
  let main_v23 : FVec F S2000000x4 .f32 := broadcastInDim S2000000x4 ![] bcast_S_S2000000x4 main_cst_7
  let main_v24 : IVec S2000000x4 1 := cmpf .olt main_arg8 main_v23
  let main_v25 : IVec S2000000x4 1 := andi main_v22 main_v24
  (main_v2, main_v5, main_v10, main_v15, main_v20, main_v25)

def fn {F : FTy → Type} [FloatOps F] (main_arg0 : FVec F S64x2 .f32) (main_arg1 : FVec F S64x2 .f32) (main_arg2 : IVec S2000000 32) (main_arg3 : IVec S2000000 32) (main_arg4 : FVec F S2000000 .f32) (main_arg5 : FVec F S2000000 .f32) (main_arg6 : FVec F S2000000 .f32) (main_arg7 : FVec F S2000000x2 .f32) (main_arg8 : FVec F S2000000x4 .f32) (main_arg9 : IVec S64 1) : IVec S64x2 1 × IVec S64x2 1 × IVec S2000000 1 × IVec S2000000 1 × IVec S2000000 1 × IVec S2000000x4 1 :=
  let main_v0 : FVec F S64x2 .f32 := Host.absf main_arg0
  let main_cst : FVec F S_ .f32 := constant S_ .f32 0x7F800000#32
  let main_v1 : FVec F S64x2 .f32 := broadcastInDim S64x2 ![] bcast_S_S64x2 main_cst
  let main_v2 : IVec S64x2 1 := cmpf .olt main_v0 main_v1
  let main_v3 : FVec F S64x2 .f32 := Host.absf main_arg1
  let main_cst_0 : FVec F S_ .f32 := constant S_ .f32 0x7F800000#32
  let main_v4 : FVec F S64x2 .f32 := broadcastInDim S64x2 ![] bcast_S_S64x2 main_cst_0
  let main_v5 : IVec S64x2 1 := cmpf .olt main_v3 main_v4
  let main_c : IVec S_ 32 := constantI S_ 32 0#32
  let main_v6 : IVec S2000000 32 := broadcastInDim S2000000 ![] bcast_S_S2000000 main_c
  let main_v7 : IVec S2000000 1 := cmpi .sge main_arg2 main_v6
  let main_c_1 : IVec S_ 32 := constantI S_ 32 64#32
  let main_v8 : IVec S2000000 32 := broadcastInDim S2000000 ![] bcast_S_S2000000 main_c_1
  let main_v9 : IVec S2000000 1 := cmpi .slt main_arg2 main_v8
  let main_v10 : IVec S2000000 1 := andi main_v7 main_v9
  let main_c_2 : IVec S_ 32 := constantI S_ 32 0#32
  let main_v11 : IVec S2000000 32 := broadcastInDim S2000000 ![] bcast_S_S2000000 main_c_2
  let main_v12 : IVec S2000000 1 := cmpi .sge main_arg3 main_v11
  let main_c_3 : IVec S_ 32 := constantI S_ 32 64#32
  let main_v13 : IVec S2000000 32 := broadcastInDim S2000000 ![] bcast_S_S2000000 main_c_3
  let main_v14 : IVec S2000000 1 := cmpi .slt main_arg3 main_v13
  let main_v15 : IVec S2000000 1 := andi main_v12 main_v14
  let main_cst_4 : FVec F S_ .f32 := constant S_ .f32 0x00000000#32
  let main_v16 : FVec F S2000000 .f32 := broadcastInDim S2000000 ![] bcast_S_S2000000 main_cst_4
  fn_part1 (F := F) main_arg4 main_arg8 main_v2 main_v5 main_v10 main_v15 main_v16
-- ==== Kernel.lean ====
abbrev S64x2 : Shape := ⟨2, ![64, 2]⟩
abbrev S2000000 : Shape := ⟨1, ![2000000]⟩
abbrev S2000000x2 : Shape := ⟨2, ![2000000, 2]⟩
abbrev S2000000x4 : Shape := ⟨2, ![2000000, 4]⟩
abbrev S64 : Shape := ⟨1, ![64]⟩
abbrev S2x64 : Shape := ⟨2, ![2, 64]⟩
abbrev S_ : Shape := ⟨0, ![]⟩
abbrev S2x128 : Shape := ⟨2, ![2, 128]⟩
abbrev S1x64 : Shape := ⟨2, ![1, 64]⟩
abbrev S1x128 : Shape := ⟨2, ![1, 128]⟩
abbrev S2x2000000 : Shape := ⟨2, ![2, 2000000]⟩
abbrev S2x15625x128 : Shape := ⟨3, ![2, 15625, 128]⟩
abbrev S4x2000000 : Shape := ⟨2, ![4, 2000000]⟩
abbrev S4x15625x128 : Shape := ⟨3, ![4, 15625, 128]⟩
abbrev S262144 : Shape := ⟨1, ![262144]⟩
abbrev S2x2048x128 : Shape := ⟨3, ![2, 2048, 128]⟩
abbrev S4x2048x128 : Shape := ⟨3, ![4, 2048, 128]⟩
abbrev S2048x128 : Shape := ⟨2, ![2048, 128]⟩
abbrev S2048x128x1 : Shape := ⟨3, ![2048, 128, 1]⟩
abbrev S1x2048x128 : Shape := ⟨3, ![1, 2048, 128]⟩

abbrev nBuf : Space → Nat
  | .hbm => 28
  | .vmem => 17
  | .smem => 0
  | _ => 0

abbrev bufTy : (tb : Table) → Fin (tcTables nBuf tb) → BufTy
  | .hbm, ⟨0, _⟩ => ⟨S64x2, .f32⟩
  | .hbm, ⟨1, _⟩ => ⟨S64x2, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S2000000, .f32⟩
  | .hbm, ⟨6, _⟩ => ⟨S2000000, .f32⟩
  | .hbm, ⟨7, _⟩ => ⟨S2000000x2, .f32⟩
  | .hbm, ⟨8, _⟩ => ⟨S2000000x4, .f32⟩
  | .hbm, ⟨9, _⟩ => ⟨S64, .i1⟩
  | .hbm, ⟨10, _⟩ => ⟨S2x64, .f32⟩
  | .hbm, ⟨11, _⟩ => ⟨S_, .i32⟩
  | .hbm, ⟨12, _⟩ => ⟨S_, .f32⟩
  | .hbm, ⟨13, _⟩ => ⟨S2x128, .f32⟩
  | .hbm, ⟨14, _⟩ => ⟨S2x64, .f32⟩
  | .hbm, ⟨15, _⟩ => ⟨S_, .i32⟩
  | .hbm, ⟨16, _⟩ => ⟨S_, .f32⟩
  | .hbm, ⟨17, _⟩ => ⟨S2x128, .f32⟩
  | .hbm, ⟨18, _⟩ => ⟨S1x64, .i1⟩
  | .hbm, ⟨19, _⟩ => ⟨S1x64, .i32⟩
  | .hbm, ⟨20, _⟩ => ⟨S_, .i32⟩
  | .hbm, ⟨21, _⟩ => ⟨S_, .i32⟩
  | .hbm, ⟨22, _⟩ => ⟨S1x128, .i32⟩
  | .hbm, ⟨23, _⟩ => ⟨S2x2000000, .f32⟩
  | .hbm, ⟨24, _⟩ => ⟨S2x15625x128, .f32⟩
  | .hbm, ⟨25, _⟩ => ⟨S4x2000000, .f32⟩
  | .hbm, ⟨26, _⟩ => ⟨S4x15625x128, .f32⟩
  | .hbm, ⟨27, _⟩ => ⟨S2000000, .f32⟩
  | .local _ .vmem, ⟨0, _⟩ => ⟨S2x128, .f32⟩
  | .local _ .vmem, ⟨1, _⟩ => ⟨S2x128, .f32⟩
  | .local _ .vmem, ⟨2, _⟩ => ⟨S1x128, .i32⟩
  | .local _ .vmem, ⟨3, _⟩ => ⟨S262144, .i32⟩
  | .local _ .vmem, ⟨4, _⟩ => ⟨S262144, .i32⟩
  | .local _ .vmem, ⟨5, _⟩ => ⟨S262144, .i32⟩
  | .local _ .vmem, ⟨6, _⟩ => ⟨S262144, .i32⟩
  | .local _ .vmem, ⟨7, _⟩ => ⟨S262144, .f32⟩
  | .local _ .vmem, ⟨8, _⟩ => ⟨S262144, .f32⟩
  | .local _ .vmem, ⟨9, _⟩ => ⟨S262144, .f32⟩
  | .local _ .vmem, ⟨10, _⟩ => ⟨S262144, .f32⟩
  | .local _ .vmem, ⟨11, _⟩ => ⟨S2x2048x128, .f32⟩
  | .local _ .vmem, ⟨12, _⟩ => ⟨S2x2048x128, .f32⟩
  | .local _ .vmem, ⟨13, _⟩ => ⟨S4x2048x128, .f32⟩
  | .local _ .vmem, ⟨14, _⟩ => ⟨S4x2048x128, .f32⟩
  | .local _ .vmem, ⟨15, _⟩ => ⟨S262144, .f32⟩
  | .local _ .vmem, ⟨16, _⟩ => ⟨S262144, .f32⟩
  | _, _ => ⟨S64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S262144 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S262144 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S262144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S262144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S262144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S64x2 : Shape := ⟨2, ![64, 2]⟩
abbrev S2000000 : Shape := ⟨1, ![2000000]⟩
abbrev S2000000x2 : Shape := ⟨2, ![2000000, 2]⟩
abbrev S2000000x4 : Shape := ⟨2, ![2000000, 4]⟩
abbrev S64 : Shape := ⟨1, ![64]⟩
abbrev S2000000x1 : Shape := ⟨2, ![2000000, 1]⟩
abbrev S_ : Shape := ⟨0, ![]⟩

abbrev nBuf : Space → Nat
  | .hbm => 470
  | .vmem => 0
  | .smem => 0
  | _ => 0

abbrev hbmTy0_0 (i : Nat) : BufTy := match i % 128 with
  | 0 => ⟨S64x2, .f32⟩
  | 1 => ⟨S64x2, .f32⟩
  | 2 => ⟨S2000000, .i32⟩
  | 3 => ⟨S2000000, .i32⟩
  | 4 => ⟨S2000000, .f32⟩
  | 5 => ⟨S2000000, .f32⟩
  | 6 => ⟨S2000000, .f32⟩
  | 7 => ⟨S2000000x2, .f32⟩
  | 8 => ⟨S2000000x4, .f32⟩
  | 9 => ⟨S64, .i1⟩
  | 10 => ⟨S2000000x1, .f32⟩
  | 11 => ⟨S2000000, .f32⟩
  | 12 => ⟨S2000000x1, .f32⟩
  | 13 => ⟨S2000000, .f32⟩
  | 14 => ⟨S2000000x1, .f32⟩
  | 15 => ⟨S2000000, .f32⟩
  | 16 => ⟨S2000000x1, .f32⟩
  | 17 => ⟨S2000000, .f32⟩
  | 18 => ⟨S2000000x1, .f32⟩
  | 19 => ⟨S2000000, .f32⟩
  | 20 => ⟨S2000000x1, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S_, .f32⟩
  | 30 => ⟨S2000000, .f32⟩
  | 31 => ⟨S2000000, .f32⟩
  | 32 => ⟨S_, .f32⟩
  | 33 => ⟨S64x2, .f32⟩
  | 34 => ⟨S64x2, .f32⟩
  | 35 => ⟨S64x2, .f32⟩
  | 36 => ⟨S64x2, .f32⟩
  | 37 => ⟨S64x2, .i1⟩
  | 38 => ⟨S64x2, .f32⟩
  | 39 => ⟨S64x2, .f32⟩
  | 40 => ⟨S64x2, .f32⟩
  | 41 => ⟨S64x2, .f32⟩
  | 42 => ⟨S64x2, .f32⟩
  | 43 => ⟨S64x2, .f32⟩
  | 44 => ⟨S64x2, .f32⟩
  | 45 => ⟨S64x2, .f32⟩
  | 46 => ⟨S_, .f32⟩
  | 47 => ⟨S64x2, .f32⟩
  | 48 => ⟨S64x2, .f32⟩
  | 49 => ⟨S64x2, .f32⟩
  | 50 => ⟨S64x2, .f32⟩
  | 51 => ⟨S64x2, .i1⟩
  | 52 => ⟨S64x2, .f32⟩
  | 53 => ⟨S64x2, .f32⟩
  | 54 => ⟨S64x2, .f32⟩
  | 55 => ⟨S64x2, .f32⟩
  | 56 => ⟨S64x2, .f32⟩
  | 57 => ⟨S64x2, .f32⟩
  | 58 => ⟨S64x2, .f32⟩
  | 59 => ⟨S64x2, .f32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000, .i1⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000, .i1⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S_, .i32⟩
  | 86 => ⟨S2000000, .i32⟩
  | 87 => ⟨S2000000, .i32⟩
  | 88 => ⟨S2000000x1, .i32⟩
  | 89 => ⟨S2000000x1, .i32⟩
  | 90 => ⟨S2000000x2, .i32⟩
  | 91 => ⟨S2000000, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S_, .i32⟩
  | 100 => ⟨S2000000, .i32⟩
  | 101 => ⟨S2000000, .i32⟩
  | 102 => ⟨S2000000x1, .i32⟩
  | 103 => ⟨S2000000x1, .i32⟩
  | 104 => ⟨S2000000x2, .i32⟩
  | 105 => ⟨S2000000, .f32⟩
  | 106 => ⟨S2000000, .f32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S_, .i32⟩
  | 115 => ⟨S2000000, .i32⟩
  | 116 => ⟨S2000000, .i32⟩
  | 117 => ⟨S2000000x1, .i32⟩
  | 118 => ⟨S2000000x1, .i32⟩
  | 119 => ⟨S2000000x2, .i32⟩
  | 120 => ⟨S2000000, .f32⟩
  | 121 => ⟨S_, .i32⟩
  | 122 => ⟨S2000000, .i32⟩
  | 123 => ⟨S2000000, .i1⟩
  | 124 => ⟨S_, .i32⟩
  | 125 => ⟨S2000000, .i32⟩
  | 126 => ⟨S2000000, .i32⟩
  | 127 => ⟨S2000000, .i32⟩
  | _ => ⟨S64x2, .f32⟩

abbrev hbmTy0_1 (i : Nat) : BufTy := match i % 128 with
  | 0 => ⟨S_, .i32⟩
  | 1 => ⟨S2000000, .i32⟩
  | 2 => ⟨S2000000, .i32⟩
  | 3 => ⟨S2000000x1, .i32⟩
  | 4 => ⟨S2000000x1, .i32⟩
  | 5 => ⟨S2000000x2, .i32⟩
  | 6 => ⟨S2000000, .f32⟩
  | 7 => ⟨S2000000, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i32⟩
  | 18 => ⟨S2000000x1, .i32⟩
  | 19 => ⟨S2000000x1, .i32⟩
  | 20 => ⟨S2000000x2, .i32⟩
  | 21 => ⟨S2000000, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S_, .i32⟩
  | 30 => ⟨S2000000, .i32⟩
  | 31 => ⟨S2000000, .i32⟩
  | 32 => ⟨S2000000x1, .i32⟩
  | 33 => ⟨S2000000x1, .i32⟩
  | 34 => ⟨S2000000x2, .i32⟩
  | 35 => ⟨S2000000, .f32⟩
  | 36 => ⟨S2000000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S_, .i32⟩
  | 45 => ⟨S2000000, .i32⟩
  | 46 => ⟨S2000000, .i32⟩
  | 47 => ⟨S2000000x1, .i32⟩
  | 48 => ⟨S2000000x1, .i32⟩
  | 49 => ⟨S2000000x2, .i32⟩
  | 50 => ⟨S2000000, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S_, .i32⟩
  | 59 => ⟨S2000000, .i32⟩
  | 60 => ⟨S2000000, .i32⟩
  | 61 => ⟨S2000000x1, .i32⟩
  | 62 => ⟨S2000000x1, .i32⟩
  | 63 => ⟨S2000000x2, .i32⟩
  | 64 => ⟨S2000000, .f32⟩
  | 65 => ⟨S2000000, .f32⟩
  | 66 => ⟨S2000000, .f32⟩
  | 67 => ⟨S2000000, .f32⟩
  | 68 => ⟨S2000000, .f32⟩
  | 69 => ⟨S2000000, .f32⟩
  | 70 => ⟨S2000000, .f32⟩
  | 71 => ⟨S2000000, .f32⟩
  | 72 => ⟨S2000000, .f32⟩
  | 73 => ⟨S2000000, .f32⟩
  | 74 => ⟨S2000000, .f32⟩
  | 75 => ⟨S2000000, .f32⟩
  | 76 => ⟨S_, .f32⟩
  | 77 => ⟨S2000000, .f32⟩
  | 78 => ⟨S2000000, .i1⟩
  | 79 => ⟨S_, .f32⟩
  | 80 => ⟨S2000000, .f32⟩
  | 81 => ⟨S2000000, .i1⟩
  | 82 => ⟨S_, .f32⟩
  | 83 => ⟨S_, .f32⟩
  | 84 => ⟨S2000000, .f32⟩
  | 85 => ⟨S2000000, .f32⟩
  | 86 => ⟨S_, .f32⟩
  | 87 => ⟨S_, .f32⟩
  | 88 => ⟨S2000000, .f32⟩
  | 89 => ⟨S2000000, .f32⟩
  | 90 => ⟨S2000000, .f32⟩
  | 91 => ⟨S_, .f32⟩
  | 92 => ⟨S2000000, .f32⟩
  | 93 => ⟨S2000000, .f32⟩
  | 94 => ⟨S_, .f32⟩
  | 95 => ⟨S2000000, .f32⟩
  | 96 => ⟨S2000000, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S2000000, .f32⟩
  | 103 => ⟨S2000000, .f32⟩
  | 104 => ⟨S2000000, .f32⟩
  | 105 => ⟨S_, .f32⟩
  | 106 => ⟨S2000000, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S_, .f32⟩
  | 113 => ⟨S2000000, .f32⟩
  | 114 => ⟨S2000000, .f32⟩
  | 115 => ⟨S2000000, .f32⟩
  | 116 => ⟨S2000000, .f32⟩
  | 117 => ⟨S_, .f32⟩
  | 118 => ⟨S2000000, .f32⟩
  | 119 => ⟨S2000000, .f32⟩
  | 120 => ⟨S_, .f32⟩
  | 121 => ⟨S2000000, .f32⟩
  | 122 => ⟨S2000000, .f32⟩
  | 123 => ⟨S2000000, .f32⟩
  | 124 => ⟨S2000000, .f32⟩
  | 125 => ⟨S_, .f32⟩
  | 126 => ⟨S2000000, .f32⟩
  | 127 => ⟨S2000000, .f32⟩
  | _ => ⟨S64x2, .f32⟩

abbrev hbmTy0_2 (i : Nat) : BufTy := match i % 128 with
  | 0 => ⟨S_, .f32⟩
  | 1 => ⟨S2000000, .f32⟩
  | 2 => ⟨S2000000, .f32⟩
  | 3 => ⟨S2000000, .f32⟩
  | 4 => ⟨S2000000, .f32⟩
  | 5 => ⟨S_, .f32⟩
  | 6 => ⟨S2000000, .f32⟩
  | 7 => ⟨S2000000, .f32⟩
  | 8 => ⟨S2000000, .f32⟩
  | 9 => ⟨S2000000, .f32⟩
  | 10 => ⟨S2000000, .f32⟩
  | 11 => ⟨S_, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S_, .f32⟩
  | 19 => ⟨S2000000, .f32⟩
  | 20 => ⟨S2000000, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S_, .f32⟩
  | 35 => ⟨S_, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S_, .f32⟩
  | 43 => ⟨S_, .f32⟩
  | 44 => ⟨S2000000, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .i1⟩
  | 51 => ⟨S_, .f32⟩
  | 52 => ⟨S2000000, .f32⟩
  | 53 => ⟨S2000000, .i1⟩
  | 54 => ⟨S_, .f32⟩
  | 55 => ⟨S_, .f32⟩
  | 56 => ⟨S2000000, .f32⟩
  | 57 => ⟨S2000000, .f32⟩
  | 58 => ⟨S_, .f32⟩
  | 59 => ⟨S_, .f32⟩
  | 60 => ⟨S2000000, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S_, .f32⟩
  | 67 => ⟨S2000000, .f32⟩
  | 68 => ⟨S2000000, .f32⟩
  | 69 => ⟨S2000000, .f32⟩
  | 70 => ⟨S2000000, .f32⟩
  | 71 => ⟨S_, .f32⟩
  | 72 => ⟨S2000000, .f32⟩
  | 73 => ⟨S2000000, .f32⟩
  | 74 => ⟨S2000000, .f32⟩
  | 75 => ⟨S2000000, .f32⟩
  | 76 => ⟨S2000000, .f32⟩
  | 77 => ⟨S_, .f32⟩
  | 78 => ⟨S2000000, .f32⟩
  | 79 => ⟨S2000000, .f32⟩
  | 80 => ⟨S2000000, .f32⟩
  | 81 => ⟨S_, .f32⟩
  | 82 => ⟨S2000000, .f32⟩
  | 83 => ⟨S2000000, .f32⟩
  | 84 => ⟨S_, .f32⟩
  | 85 => ⟨S2000000, .f32⟩
  | 86 => ⟨S2000000, .f32⟩
  | 87 => ⟨S2000000, .f32⟩
  | 88 => ⟨S2000000, .f32⟩
  | 89 => ⟨S_, .f32⟩
  | 90 => ⟨S2000000, .f32⟩
  | 91 => ⟨S2000000, .f32⟩
  | 92 => ⟨S_, .f32⟩
  | 93 => ⟨S2000000, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S_, .f32⟩
  | 101 => ⟨S2000000, .f32⟩
  | 102 => ⟨S2000000, .f32⟩
  | 103 => ⟨S2000000, .f32⟩
  | 104 => ⟨S2000000, .f32⟩
  | 105 => ⟨S_, .f32⟩
  | 106 => ⟨S2000000, .f32⟩
  | 107 => ⟨S2000000, .f32⟩
  | 108 => ⟨S2000000, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S2000000, .f32⟩
  | 115 => ⟨S_, .f32⟩
  | 116 => ⟨S2000000, .f32⟩
  | 117 => ⟨S2000000, .f32⟩
  | 118 => ⟨S_, .f32⟩
  | 119 => ⟨S2000000, .f32⟩
  | 120 => ⟨S2000000, .f32⟩
  | 121 => ⟨S2000000, .f32⟩
  | 122 => ⟨S2000000, .f32⟩
  | 123 => ⟨S_, .f32⟩
  | 124 => ⟨S2000000, .f32⟩
  | 125 => ⟨S2000000, .f32⟩
  | 126 => ⟨S_, .f32⟩
  | 127 => ⟨S2000000, .f32⟩
  | _ => ⟨S64x2, .f32⟩

abbrev hbmTy0_3 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S2000000, .f32⟩
  | 6 => ⟨S_, .f32⟩
  | 7 => ⟨S_, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S2000000, .f32⟩
  | 14 => ⟨S_, .f32⟩
  | 15 => ⟨S_, .f32⟩
  | 16 => ⟨S2000000, .f32⟩
  | 17 => ⟨S2000000, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S_, .f32⟩
  | 32 => ⟨S2000000, .f32⟩
  | 33 => ⟨S2000000, .f32⟩
  | 34 => ⟨S_, .f32⟩
  | 35 => ⟨S2000000, .f32⟩
  | 36 => ⟨S2000000, .i1⟩
  | 37 => ⟨S2000000, .f32⟩
  | 38 => ⟨S2000000, .f32⟩
  | 39 => ⟨S_, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S2000000, .f32⟩
  | 47 => ⟨S_, .f32⟩
  | 48 => ⟨S_, .f32⟩
  | 49 => ⟨S2000000, .f32⟩
  | 50 => ⟨S2000000, .f32⟩
  | 51 => ⟨S_, .f32⟩
  | 52 => ⟨S2000000, .f32⟩
  | 53 => ⟨S2000000, .i1⟩
  | 54 => ⟨S2000000, .f32⟩
  | 55 => ⟨S2000000, .f32⟩
  | 56 => ⟨S_, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S2000000, .f32⟩
  | 63 => ⟨S2000000, .f32⟩
  | 64 => ⟨S_, .f32⟩
  | 65 => ⟨S_, .f32⟩
  | 66 => ⟨S2000000, .f32⟩
  | 67 => ⟨S2000000, .f32⟩
  | 68 => ⟨S_, .f32⟩
  | 69 => ⟨S2000000, .f32⟩
  | 70 => ⟨S2000000, .f32⟩
  | 71 => ⟨S2000000, .f32⟩
  | 72 => ⟨S_, .f32⟩
  | 73 => ⟨S2000000, .f32⟩
  | 74 => ⟨S2000000, .f32⟩
  | 75 => ⟨S_, .f32⟩
  | 76 => ⟨S2000000, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S2000000, .f32⟩
  | 83 => ⟨S2000000, .f32⟩
  | 84 => ⟨S2000000, .f32⟩
  | 85 => ⟨S2000000, .f32⟩
  | _ => ⟨S64x2, .f32⟩

abbrev hbmTy (i : Nat) : BufTy := match i / 128 with
  | 0 => hbmTy0_0 i
  | 1 => hbmTy0_1 i
  | 2 => hbmTy0_2 i
  | 3 => hbmTy0_3 i
  | _ => ⟨S64x2, .f32⟩

abbrev bufTy : (tb : Table) → Fin (tcTables nBuf tb) → BufTy
  | .hbm, ⟨i, _⟩ => hbmTy i
  | _, _ => ⟨S64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v19 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_v20 : Ref sig .tc := ⟨.hbm, 59, rfl⟩
abbrev main_c : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_3 : Ref sig .tc := ⟨.hbm, 69, rfl⟩
abbrev main_v28 : Ref sig .tc := ⟨.hbm, 70, rfl⟩
abbrev main_v29 : Ref sig .tc := ⟨.hbm, 71, rfl⟩
abbrev main_c_4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_5 : Ref sig .tc := ⟨.hbm, 78, rfl⟩
abbrev main_v35 : Ref sig .tc := ⟨.hbm, 79, rfl⟩
abbrev main_v36 : Ref sig .tc := ⟨.hbm, 80, rfl⟩
abbrev main_c_6 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_c_7 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_8 : Ref sig .tc := ⟨.hbm, 92, rfl⟩
abbrev main_v46 : Ref sig .tc := ⟨.hbm, 93, rfl⟩
abbrev main_v47 : Ref sig .tc := ⟨.hbm, 94, rfl⟩
abbrev main_c_9 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_10 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_c_11 : Ref sig .tc := ⟨.hbm, 107, rfl⟩
abbrev main_v58 : Ref sig .tc := ⟨.hbm, 108, rfl⟩
abbrev main_v59 : Ref sig .tc := ⟨.hbm, 109, rfl⟩
abbrev main_c_12 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_c_13 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_14 : Ref sig .tc := ⟨.hbm, 121, rfl⟩
abbrev main_v69 : Ref sig .tc := ⟨.hbm, 122, rfl⟩
abbrev main_v70 : Ref sig .tc := ⟨.hbm, 123, rfl⟩
abbrev main_c_15 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_c_16 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_c_17 : Ref sig .tc := ⟨.hbm, 136, rfl⟩
abbrev main_v81 : Ref sig .tc := ⟨.hbm, 137, rfl⟩
abbrev main_v82 : Ref sig .tc := ⟨.hbm, 138, rfl⟩
abbrev main_c_18 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_c_19 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_c_20 : Ref sig .tc := ⟨.hbm, 150, rfl⟩
abbrev main_v92 : Ref sig .tc := ⟨.hbm, 151, rfl⟩
abbrev main_v93 : Ref sig .tc := ⟨.hbm, 152, rfl⟩
abbrev main_c_21 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_22 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_c_23 : Ref sig .tc := ⟨.hbm, 165, rfl⟩
abbrev main_v104 : Ref sig .tc := ⟨.hbm, 166, rfl⟩
abbrev main_v105 : Ref sig .tc := ⟨.hbm, 167, rfl⟩
abbrev main_c_24 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_c_25 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_c_26 : Ref sig .tc := ⟨.hbm, 179, rfl⟩
abbrev main_v115 : Ref sig .tc := ⟨.hbm, 180, rfl⟩
abbrev main_v116 : Ref sig .tc := ⟨.hbm, 181, rfl⟩
abbrev main_c_27 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_c_28 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_cst_29 : Ref sig .tc := ⟨.hbm, 204, rfl⟩
abbrev main_v137 : Ref sig .tc := ⟨.hbm, 205, rfl⟩
abbrev main_v138 : Ref sig .tc := ⟨.hbm, 206, rfl⟩
abbrev main_cst_30 : Ref sig .tc := ⟨.hbm, 207, rfl⟩
abbrev main_v139 : Ref sig .tc := ⟨.hbm, 208, rfl⟩
abbrev main_v140 : Ref sig .tc := ⟨.hbm, 209, rfl⟩
abbrev main_cst_31 : Ref sig .tc := ⟨.hbm, 210, rfl⟩
abbrev main_call6_v0 : Ref sig .tc := ⟨.hbm, 211, rfl⟩
abbrev main_call6_v1 : Ref sig .tc := ⟨.hbm, 212, rfl⟩
abbrev main_v141 : Ref sig .tc := ⟨.hbm, 213, rfl⟩
abbrev main_cst_32 : Ref sig .tc := ⟨.hbm, 214, rfl⟩
abbrev main_call7_v0 : Ref sig .tc := ⟨.hbm, 215, rfl⟩
abbrev main_call7_v1 : Ref sig .tc := ⟨.hbm, 216, rfl⟩
abbrev main_v142 : Ref sig .tc := ⟨.hbm, 217, rfl⟩
abbrev main_v143 : Ref sig .tc := ⟨.hbm, 218, rfl⟩
abbrev main_cst_33 : Ref sig .tc := ⟨.hbm, 219, rfl⟩
abbrev main_v144 : Ref sig .tc := ⟨.hbm, 220, rfl⟩
abbrev main_v145 : Ref sig .tc := ⟨.hbm, 221, rfl⟩
abbrev main_cst_34 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_cst_35 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_cst_36 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_37 : Ref sig .tc := ⟨.hbm, 237, rfl⟩
abbrev main_v158 : Ref sig .tc := ⟨.hbm, 238, rfl⟩
abbrev main_v159 : Ref sig .tc := ⟨.hbm, 239, rfl⟩
abbrev main_cst_38 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_cst_39 : Ref sig .tc := ⟨.hbm, 245, rfl⟩
abbrev main_v164 : Ref sig .tc := ⟨.hbm, 246, rfl⟩
abbrev main_v165 : Ref sig .tc := ⟨.hbm, 247, rfl⟩
abbrev main_cst_40 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_cst_41 : Ref sig .tc := ⟨.hbm, 253, rfl⟩
abbrev main_v170 : Ref sig .tc := ⟨.hbm, 254, rfl⟩
abbrev main_v171 : Ref sig .tc := ⟨.hbm, 255, rfl⟩
abbrev main_cst_42 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_cst_43 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_cst_44 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_cst_45 : Ref sig .tc := ⟨.hbm, 271, rfl⟩
abbrev main_v184 : Ref sig .tc := ⟨.hbm, 272, rfl⟩
abbrev main_v185 : Ref sig .tc := ⟨.hbm, 273, rfl⟩
abbrev main_cst_46 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_cst_47 : Ref sig .tc := ⟨.hbm, 279, rfl⟩
abbrev main_v190 : Ref sig .tc := ⟨.hbm, 280, rfl⟩
abbrev main_v191 : Ref sig .tc := ⟨.hbm, 281, rfl⟩
abbrev main_cst_48 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_cst_49 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_cst_50 : Ref sig .tc := ⟨.hbm, 290, rfl⟩
abbrev main_call9_v0 : Ref sig .tc := ⟨.hbm, 291, rfl⟩
abbrev main_call9_v1 : Ref sig .tc := ⟨.hbm, 292, rfl⟩
abbrev main_v198 : Ref sig .tc := ⟨.hbm, 293, rfl⟩
abbrev main_cst_51 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_cst_52 : Ref sig .tc := ⟨.hbm, 298, rfl⟩
abbrev main_call11_v0 : Ref sig .tc := ⟨.hbm, 299, rfl⟩
abbrev main_call11_v1 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_cst_53 : Ref sig .tc := ⟨.hbm, 304, rfl⟩
abbrev main_v205 : Ref sig .tc := ⟨.hbm, 305, rfl⟩
abbrev main_v206 : Ref sig .tc := ⟨.hbm, 306, rfl⟩
abbrev main_cst_54 : Ref sig .tc := ⟨.hbm, 307, rfl⟩
abbrev main_v207 : Ref sig .tc := ⟨.hbm, 308, rfl⟩
abbrev main_v208 : Ref sig .tc := ⟨.hbm, 309, rfl⟩
abbrev main_cst_55 : Ref sig .tc := ⟨.hbm, 310, rfl⟩
abbrev main_call12_v0 : Ref sig .tc := ⟨.hbm, 311, rfl⟩
abbrev main_call12_v1 : Ref sig .tc := ⟨.hbm, 312, rfl⟩
abbrev main_v209 : Ref sig .tc := ⟨.hbm, 313, rfl⟩
abbrev main_cst_56 : Ref sig .tc := ⟨.hbm, 314, rfl⟩
abbrev main_call13_v0 : Ref sig .tc := ⟨.hbm, 315, rfl⟩
abbrev main_call13_v1 : Ref sig .tc := ⟨.hbm, 316, rfl⟩
abbrev main_v210 : Ref sig .tc := ⟨.hbm, 317, rfl⟩
abbrev main_v211 : Ref sig .tc := ⟨.hbm, 318, rfl⟩
abbrev main_cst_57 : Ref sig .tc := ⟨.hbm, 319, rfl⟩
abbrev main_v212 : Ref sig .tc := ⟨.hbm, 320, rfl⟩
abbrev main_v213 : Ref sig .tc := ⟨.hbm, 321, rfl⟩
abbrev main_cst_58 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_59 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_cst_60 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_cst_61 : Ref sig .tc := ⟨.hbm, 337, rfl⟩
abbrev main_v226 : Ref sig .tc := ⟨.hbm, 338, rfl⟩
abbrev main_v227 : Ref sig .tc := ⟨.hbm, 339, rfl⟩
abbrev main_cst_62 : Ref sig .tc := ⟨.hbm, 340, rfl⟩
abbrev main_v228 : Ref sig .tc := ⟨.hbm, 341, rfl⟩
abbrev main_v229 : Ref sig .tc := ⟨.hbm, 342, rfl⟩
abbrev main_v230 : Ref sig .tc := ⟨.hbm, 343, rfl⟩
abbrev main_v231 : Ref sig .tc := ⟨.hbm, 344, rfl⟩
abbrev main_cst_63 : Ref sig .tc := ⟨.hbm, 345, rfl⟩
abbrev main_v232 : Ref sig .tc := ⟨.hbm, 346, rfl⟩
abbrev main_v233 : Ref sig .tc := ⟨.hbm, 347, rfl⟩
abbrev main_cst_64 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_cst_65 : Ref sig .tc := ⟨.hbm, 353, rfl⟩
abbrev main_v238 : Ref sig .tc := ⟨.hbm, 354, rfl⟩
abbrev main_v239 : Ref sig .tc := ⟨.hbm, 355, rfl⟩
abbrev main_cst_66 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_cst_67 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_cst_68 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_cst_69 : Ref sig .tc := ⟨.hbm, 371, rfl⟩
abbrev main_v252 : Ref sig .tc := ⟨.hbm, 372, rfl⟩
abbrev main_v253 : Ref sig .tc := ⟨.hbm, 373, rfl⟩
abbrev main_cst_70 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_cst_71 : Ref sig .tc := ⟨.hbm, 379, rfl⟩
abbrev main_v258 : Ref sig .tc := ⟨.hbm, 380, rfl⟩
abbrev main_v259 : Ref sig .tc := ⟨.hbm, 381, rfl⟩
abbrev main_cst_72 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_cst_73 : Ref sig .tc := ⟨.hbm, 386, rfl⟩
abbrev main_v263 : Ref sig .tc := ⟨.hbm, 387, rfl⟩
abbrev main_v264 : Ref sig .tc := ⟨.hbm, 388, rfl⟩
abbrev main_v265 : Ref sig .tc := ⟨.hbm, 389, rfl⟩
abbrev main_cst_74 : Ref sig .tc := ⟨.hbm, 390, rfl⟩
abbrev main_call15_v0 : Ref sig .tc := ⟨.hbm, 391, rfl⟩
abbrev main_call15_v1 : Ref sig .tc := ⟨.hbm, 392, rfl⟩
abbrev main_v266 : Ref sig .tc := ⟨.hbm, 393, rfl⟩
abbrev main_cst_75 : Ref sig .tc := ⟨.hbm, 394, rfl⟩
abbrev main_v267 : Ref sig .tc := ⟨.hbm, 395, rfl⟩
abbrev main_v268 : Ref sig .tc := ⟨.hbm, 396, rfl⟩
abbrev main_v269 : Ref sig .tc := ⟨.hbm, 397, rfl⟩
abbrev main_cst_76 : Ref sig .tc := ⟨.hbm, 398, rfl⟩
abbrev main_call17_v0 : Ref sig .tc := ⟨.hbm, 399, rfl⟩
abbrev main_call17_v1 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_cst_77 : Ref sig .tc := ⟨.hbm, 404, rfl⟩
abbrev main_v273 : Ref sig .tc := ⟨.hbm, 405, rfl⟩
abbrev main_v274 : Ref sig .tc := ⟨.hbm, 406, rfl⟩
abbrev main_cst_78 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_v278 : Ref sig .tc := ⟨.hbm, 411, rfl⟩
abbrev main_cst_79 : Ref sig .tc := ⟨.hbm, 412, rfl⟩
abbrev main_v279 : Ref sig .tc := ⟨.hbm, 413, rfl⟩
abbrev main_v280 : Ref sig .tc := ⟨.hbm, 414, rfl⟩
abbrev main_cst_80 : Ref sig .tc := ⟨.hbm, 415, rfl⟩
abbrev main_v281 : Ref sig .tc := ⟨.hbm, 416, rfl⟩
abbrev main_v282 : Ref sig .tc := ⟨.hbm, 417, rfl⟩
abbrev main_cst_81 : Ref sig .tc := ⟨.hbm, 418, rfl⟩
abbrev main_v283 : Ref sig .tc := ⟨.hbm, 419, rfl⟩
abbrev main_v284 : Ref sig .tc := ⟨.hbm, 420, rfl⟩
abbrev main_v285 : Ref sig .tc := ⟨.hbm, 421, rfl⟩
abbrev main_v286 : Ref sig .tc := ⟨.hbm, 422, rfl⟩
abbrev main_cst_82 : Ref sig .tc := ⟨.hbm, 423, rfl⟩
abbrev main_v287 : Ref sig .tc := ⟨.hbm, 424, rfl⟩
abbrev main_v288 : Ref sig .tc := ⟨.hbm, 425, rfl⟩
abbrev main_cst_83 : Ref sig .tc := ⟨.hbm, 426, rfl⟩
abbrev main_v289 : Ref sig .tc := ⟨.hbm, 427, rfl⟩
abbrev main_v290 : Ref sig .tc := ⟨.hbm, 428, rfl⟩
abbrev main_v291 : Ref sig .tc := ⟨.hbm, 429, rfl⟩
abbrev main_v292 : Ref sig .tc := ⟨.hbm, 430, rfl⟩
abbrev main_cst_84 : Ref sig .tc := ⟨.hbm, 431, rfl⟩
abbrev main_call18_v0 : Ref sig .tc := ⟨.hbm, 432, rfl⟩
abbrev main_call18_v1 : Ref sig .tc := ⟨.hbm, 433, rfl⟩
abbrev main_v293 : Ref sig .tc := ⟨.hbm, 434, rfl⟩
abbrev main_cst_85 : Ref sig .tc := ⟨.hbm, 435, rfl⟩
abbrev main_v294 : Ref sig .tc := ⟨.hbm, 436, rfl⟩
abbrev main_v295 : Ref sig .tc := ⟨.hbm, 437, rfl⟩
abbrev main_v296 : Ref sig .tc := ⟨.hbm, 438, rfl⟩
abbrev main_v297 : Ref sig .tc := ⟨.hbm, 439, rfl⟩
abbrev main_cst_86 : Ref sig .tc := ⟨.hbm, 440, rfl⟩
abbrev main_v298 : Ref sig .tc := ⟨.hbm, 441, rfl⟩
abbrev main_v299 : Ref sig .tc := ⟨.hbm, 442, rfl⟩
abbrev main_cst_87 : Ref sig .tc := ⟨.hbm, 443, rfl⟩
abbrev main_v300 : Ref sig .tc := ⟨.hbm, 444, rfl⟩
abbrev main_v301 : Ref sig .tc := ⟨.hbm, 445, rfl⟩
abbrev main_v302 : Ref sig .tc := ⟨.hbm, 446, rfl⟩
abbrev main_v303 : Ref sig .tc := ⟨.hbm, 447, rfl⟩
abbrev main_cst_88 : Ref sig .tc := ⟨.hbm, 448, rfl⟩
abbrev main_call19_v0 : Ref sig .tc := ⟨.hbm, 449, rfl⟩
abbrev main_call19_v1 : Ref sig .tc := ⟨.hbm, 450, rfl⟩
abbrev main_v304 : Ref sig .tc := ⟨.hbm, 451, rfl⟩
abbrev main_cst_89 : Ref sig .tc := ⟨.hbm, 452, rfl⟩
abbrev main_v305 : Ref sig .tc := ⟨.hbm, 453, rfl⟩
abbrev main_v306 : Ref sig .tc := ⟨.hbm, 454, rfl⟩
abbrev main_v307 : Ref sig .tc := ⟨.hbm, 455, rfl⟩
abbrev main_cst_90 : Ref sig .tc := ⟨.hbm, 456, rfl⟩
abbrev main_v308 : Ref sig .tc := ⟨.hbm, 457, rfl⟩
abbrev main_v309 : Ref sig .tc := ⟨.hbm, 458, rfl⟩
abbrev main_cst_91 : Ref sig .tc := ⟨.hbm, 459, rfl⟩
abbrev main_v310 : Ref sig .tc := ⟨.hbm, 460, rfl⟩
abbrev main_v311 : Ref sig .tc := ⟨.hbm, 461, rfl⟩
abbrev main_v312 : Ref sig .tc := ⟨.hbm, 462, rfl⟩
abbrev main_cst_92 : Ref sig .tc := ⟨.hbm, 463, rfl⟩
abbrev main_v313 : Ref sig .tc := ⟨.hbm, 464, rfl⟩
abbrev main_v314 : Ref sig .tc := ⟨.hbm, 465, rfl⟩
abbrev main_v315 : Ref sig .tc := ⟨.hbm, 466, rfl⟩
abbrev main_v316 : Ref sig .tc := ⟨.hbm, 467, rfl⟩
abbrev main_v317 : Ref sig .tc := ⟨.hbm, 468, rfl⟩
abbrev main_v318 : Ref sig .tc := ⟨.hbm, 469, rfl⟩

abbrev nD : Nat := 1
abbrev τ : Topo := Topo.v7x

variable {F : FTy → Type} [FloatOps F]
-- ==== Proof.Lane.lean ====
/-
  What the kernel computes at ONE lane of a block, as scalar formulas over any float values.

  A lane has two species: an associating pair (i, j). The tables hold, per species, the softplus of one of two energy
  tables, chosen by a mask word. From the four table entries of the pair and the inverse temperature the lane forms
  four association strengths; each is scaled by a density, the fractions of free sites follow in closed form, and the
  lane's result is the sum of two site terms and a bond term.
-/
module

public import Idealize.ShloMosaic.PureOps

@[expose] public section

noncomputable section

namespace Cert.Lane

open Idealize.ShloMosaic

variable {F : FTy → Type} [FloatOps F]

/-- The constants of the formulas: zero, one, two, one half. -/
def zero : F .f32 := Scalar.ofBits .f32 0x00000000#32
def one : F .f32 := Scalar.ofBits .f32 0x3F800000#32
def two : F .f32 := Scalar.ofBits .f32 0x40000000#32
def half : F .f32 := Scalar.ofBits .f32 0x3F000000#32

/-- The softplus of an energy, as the kernel evaluates it: max(x, 0) + log1p(exp(0 - |x|)). -/
def softplus (x : F .f32) : F .f32 :=
  FloatOps.addf (FloatOps.maximumf x zero) (FloatOps.log1p (FloatOps.exp (FloatOps.subf zero (FloatOps.absf x))))

/-- One entry of the table: the softplus of the free energy where the mask word is not zero, of the fixed one elsewhere. -/
def entry (mask : BitVec 32) (free fixed : F .f32) : F .f32 :=
  Scalar.select (IntOp.cmpi .ne mask 0#32) (softplus free) (softplus fixed)

/-- The lane of the table a species' index names: a negative index counts from the table's end, then the index is read
    modulo the table's 128 lanes. -/
def slot (i : BitVec 32) : Fin 128 :=
  ⟨(Scalar.select (IntOp.cmpi .slt i 0#32) (IntOp.addi i 128#32) i).toNat % 128, Nat.mod_lt _ (by decide)⟩

/-- The temperature factor 0.034 · (exp(1960 / T) - 1). -/
def gain (invT : F .f32) : F .f32 :=
  FloatOps.mulf (Scalar.ofBits .f32 0x3D0B4396#32)
    (FloatOps.subf (FloatOps.exp (FloatOps.mulf (Scalar.ofBits .f32 0x44F50000#32) invT)) one)

/-- An association strength: the product of two table entries and the temperature factor. -/
def strength (p q g : F .f32) : F .f32 := FloatOps.mulf (FloatOps.mulf p q) g

/-- Whether a density (or an amount) is zero. -/
def isZero (x : F .f32) : BitVec 1 := FloatOps.cmpf .oeq x zero

/-- The strength scaled by a density, or one where the density is zero. -/
def scaled (strength ρ : F .f32) : F .f32 := Scalar.select (isZero ρ) one (FloatOps.mulf strength ρ)

/-- The square root the fractions share: √((a - d)² + 2(a + d) + 1). -/
def root (a d : F .f32) : F .f32 :=
  FloatOps.sqrt (FloatOps.addf (FloatOps.addf (FloatOps.mulf (FloatOps.subf a d) (FloatOps.subf a d))
    (FloatOps.mulf two (FloatOps.addf a d))) one)

/-- The fraction of free sites of one kind: `z` says this kind's density is zero, `z'` the other's; `a` is this kind's
    scaled strength, `d` the other's, `s` their square root. -/
def fraction (z z' : BitVec 1) (a d s : F .f32) : F .f32 :=
  Scalar.select z' one
    (FloatOps.addf
      (FloatOps.divf (Scalar.select z one (FloatOps.addf (FloatOps.subf a (FloatOps.mulf two d)) two))
        (Scalar.select z d (FloatOps.mulf two (FloatOps.addf (FloatOps.addf s one) d))))
      (Scalar.select z zero half))

/-- One plus strength times density times fraction. -/
def uptake (strength ρ x : F .f32) : F .f32 := FloatOps.addf one (FloatOps.mulf (FloatOps.mulf strength ρ) x)

/-- A site's contribution: n · ((x - 1)/2 - log(u·x)), or zero where the amount n is zero. -/
def siteTerm (n x u : F .f32) : F .f32 :=
  Scalar.select (isZero n) zero
    (FloatOps.mulf n (FloatOps.subf (FloatOps.mulf (FloatOps.subf x one) half) (FloatOps.log (FloatOps.mulf u x))))

/-- The bonds' contribution, before its halving: r · (ρ₂·(1 - x) + ρ₃·(1 - y)). -/
def bondTerm (r ρ2 ρ3 x y : F .f32) : F .f32 :=
  FloatOps.mulf r (FloatOps.addf (FloatOps.mulf ρ2 (FloatOps.subf one x)) (FloatOps.mulf ρ3 (FloatOps.subf one y)))

/-- One lane's result, from the pair's four table entries (`p0 p1` of the first species, `q0 q1` of the second), the
    inverse temperature, the multiplicity, the two amounts and the four densities. -/
def lane (p0 p1 q0 q1 invT r n0 n1 ρ0 ρ1 ρ2 ρ3 : F .f32) : F .f32 :=
  let g := gain invT
  let am := scaled (strength q0 q1 g) ρ2
  let dm := scaled (strength q0 q1 g) ρ3
  let sm := root am dm
  let xam := fraction (isZero ρ2) (isZero ρ3) am dm sm
  let xdm := fraction (isZero ρ3) (isZero ρ2) dm am sm
  let ap := scaled (strength p0 p1 g) ρ0
  let dp := scaled (strength p0 p1 g) ρ1
  let sp := root ap dp
  let xap := fraction (isZero ρ0) (isZero ρ1) ap dp sp
  let xdp := fraction (isZero ρ1) (isZero ρ0) dp ap sp
  FloatOps.addf
    (FloatOps.addf (siteTerm n0 xap (uptake (strength p0 q1 g) ρ3 xdm)) (siteTerm n1 xdp (uptake (strength q0 p1 g) ρ2 xam)))
    (FloatOps.mulf (bondTerm r ρ2 ρ3 xam xdm) half)

end Cert.Lane

end
-- ==== Proof.Body.lean ====
/-
  One run of the kernel's body at one grid point, as a whole: from the blocks it is handed to the block it leaves,
  and the loads, stores and lane operations between them.
-/
module

public import proofs.«01_k».proof.Proof.Lane
public import proofs.«01_k».proof.Proof.Gen.KernelIdeal.Frame
public import proofs.«01_k».proof.Proof.Gen.KernelIdeal.Skeleton
public import Idealize.ShloMosaic.Lib.VecWindow
public import Idealize.ShloMosaic.Lib.Pipeline.TableIdle
public import Idealize.ShloMosaic.Lib.Tactic

@[expose] public section

noncomputable section

namespace Cert.KernelIdeal.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- Plane `k` of the four density planes of a block, and of the two amount planes. -/
def rhoPlane (k : Fin 4) (X : S4x2048x128.Idx → Elt F .f32) : Vec F S1x2048x128 .f32 :=
  VecWindow.window X ![k.val, 0, 0] S1x2048x128.size (by fin_cases k <;> decide)
def amountPlane (k : Fin 2) (X : S2x2048x128.Idx → Elt F .f32) : Vec F S1x2048x128 .f32 :=
  VecWindow.window X ![k.val, 0, 0] S1x2048x128.size (by fin_cases k <;> decide)

/-- What the body stores, from what its nine input buffers hold. -/
def blockOut (X0 X1 : S2x128.Idx → Elt F .f32) (X2 : S1x128.Idx → Elt F .i32) (X3 X4 : S262144.Idx → Elt F .i32)
    (X5 X6 : S262144.Idx → Elt F .f32) (X7 : S2x2048x128.Idx → Elt F .f32) (X8 : S4x2048x128.Idx → Elt F .f32) :
    S262144.Idx → Elt F .f32 :=
  let v28 := k0_pay3 (F := F) X3
  let v30 := k0_pay4 (F := F) X4
  let v33 := k0_pay5 X0 X1 X2
  let v36 := k0_pay6 X0 X1 X2
  let v43 := k0_pay7 (F := F) X3
  let v79 := k0_pay13 v28 v33 v36 v43 X5
  let v81 := k0_pay14 v30 v33 v36 X5
  let v83 := k0_pay15 v30 v33 v36 v43 X5
  let v85 := k0_pay16 v28 v30 v33 v36 X5
  let v87 := k0_pay17 (rhoPlane 2 X8)
  let v88 := rhoPlane 3 X8
  let v89 := k0_pay18 v88
  let v91 := k0_pay19 v87
  let v93 := k0_pay20 v88
  let v96 := k0_pay21 v81 v87
  let v108 := k0_pay23 v81 v87 v88
  let v128 := k0_pay24 v81 v87 v88
  let v131 := k0_pay25 v81 v87 v88
  let v148 := k0_pay26 v91 v93 v96 v108 v131 (Scalar.ofBits .f32 0x40000000#32)
  let v149 := rhoPlane 0 X8
  let v151 := rhoPlane 1 X8
  let v154 := k0_pay29 v149
  let v156 := k0_pay30 v151
  let v159 := k0_pay31 v79 v149
  let v162 := k0_pay32 v79 v151
  let v171 := k0_pay33 v79 v149 v151
  let v191 := k0_pay35 v154 v156 v159 v162 v171 k0_pay34
  let v211 := k0_pay36 v154 v156 v159 v162 v171
  let v215 := k0_pay37 v83 v89 v148
  let v216 := k0_pay38 v85 v87
  k0_pay1 (k0_pay39 v191 v215 (amountPlane 0 X7)) (k0_pay40 v128 v211 v216 (amountPlane 1 X7))
    (k0_pay41 v87 v89 v128 v148 X6) (Scalar.ofBits .f32 0x3F000000#32)

set_option maxHeartbeats 1000000 in
/-- The body on any ten whole buffers: the nine inputs unchanged, the output at `blockOut` of them. -/
theorem sound_body (c : Dev nD) (E : Set ℕ) (i : grid0.Coords)
    (arg1 : Memref sig .tc .vmem S2x128 .f32) (harg1 : arg1.IsWhole) (arg2 : Memref sig .tc .vmem S2x128 .f32) (harg2 : arg2.IsWhole)
    (arg3 : Memref sig .tc .vmem S1x128 .i32) (harg3 : arg3.IsWhole) (arg4 : Memref sig .tc .vmem S262144 .i32) (harg4 : arg4.IsWhole)
    (arg5 : Memref sig .tc .vmem S262144 .i32) (harg5 : arg5.IsWhole) (arg6 : Memref sig .tc .vmem S262144 .f32) (harg6 : arg6.IsWhole)
    (arg7 : Memref sig .tc .vmem S262144 .f32) (harg7 : arg7.IsWhole) (arg8 : Memref sig .tc .vmem S2x2048x128 .f32) (harg8 : arg8.IsWhole)
    (arg9 : Memref sig .tc .vmem S4x2048x128 .f32) (harg9 : arg9.IsWhole) (arg10 : Memref sig .tc .vmem S262144 .f32) (harg10 : arg10.IsWhole)
    (X0 X1 : S2x128.Idx → Elt F .f32) (X2 : S1x128.Idx → Elt F .i32) (X3 X4 : S262144.Idx → Elt F .i32)
    (X5 X6 : S262144.Idx → Elt F .f32) (X7 : S2x2048x128.Idx → Elt F .f32) (X8 : S4x2048x128.Idx → Elt F .f32)
    (X9 : S262144.Idx → Elt F .f32) (K : PUnit → sProp 𝕄) :
    iprop((owns (c : Thread nD τ) arg1 fullShare X0 ∗ owns (c : Thread nD τ) arg2 fullShare X1
            ∗ owns (c : Thread nD τ) arg3 fullShare X2 ∗ owns (c : Thread nD τ) arg4 fullShare X3
            ∗ owns (c : Thread nD τ) arg5 fullShare X4 ∗ owns (c : Thread nD τ) arg6 fullShare X5
            ∗ owns (c : Thread nD τ) arg7 fullShare X6 ∗ owns (c : Thread nD τ) arg8 fullShare X7
            ∗ owns (c : Thread nD τ) arg9 fullShare X8 ∗ owns (c : Thread nD τ) arg10 fullShare X9)
          ∗ (iprop(owns (c : Thread nD τ) arg1 fullShare X0 ∗ owns (c : Thread nD τ) arg2 fullShare X1
            ∗ owns (c : Thread nD τ) arg3 fullShare X2 ∗ owns (c : Thread nD τ) arg4 fullShare X3
            ∗ owns (c : Thread nD τ) arg5 fullShare X4 ∗ owns (c : Thread nD τ) arg6 fullShare X5
            ∗ owns (c : Thread nD τ) arg7 fullShare X6 ∗ owns (c : Thread nD τ) arg8 fullShare X7
            ∗ owns (c : Thread nD τ) arg9 fullShare X8
            ∗ owns (c : Thread nD τ) arg10 fullShare (blockOut X0 X1 X2 X3 X4 X5 X6 X7 X8)) -∗ K ⟨⟩))
      ⊢ wp frame (wpE (defs₀ (F := F)) 𝒱₀ c none) E
          (cc0__body i arg1 harg1 arg2 harg2 arg3 harg3 arg4 harg4 arg5 harg5 arg6 harg6 arg7 harg7 arg8 harg8 arg9 harg9 arg10 harg10) K := by
  rw [owns_eq_rep (c : Thread nD τ) arg10 fullShare X9]
  simp only [owns_eq_rep (c : Thread nD τ) arg1, owns_eq_rep (c : Thread nD τ) arg2, owns_eq_rep (c : Thread nD τ) arg3,
    owns_eq_rep (c : Thread nD τ) arg4, owns_eq_rep (c : Thread nD τ) arg5, owns_eq_rep (c : Thread nD τ) arg6,
    owns_eq_rep (c : Thread nD τ) arg7, owns_eq_rep (c : Thread nD τ) arg8, owns_eq_rep (c : Thread nD τ) arg9]
  simp only [cc0__body_eq_skeleton, k0_part1_eq_skeleton, k0_part2_eq_skeleton, k0_part3_eq_skeleton, k0_part4_eq_skeleton,
    k0_part5_eq_skeleton, k0_part6_eq_skeleton]
  unfold cc0__body_skel
  simp only [k0_part1_eq_skeleton, k0_part2_eq_skeleton, k0_part3_eq_skeleton, k0_part4_eq_skeleton,
    k0_part5_eq_skeleton, k0_part6_eq_skeleton]
  unfold k0_part1_skel k0_part2_skel k0_part3_skel k0_part4_skel k0_part5_skel k0_part6_skel
  simp only [Prog.lift, Prog.bind_op, Prog.bind_ret, pure_bind]
  iintro ⟨⟨H1, H2, H3, H4, H5, H6, H7, H8, H9, H10⟩, Hk⟩
  sl_steps
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns
  iexists _
  isplitr
  swap
  · iexact H10
  · ipureintro
    refine (View.read_writes_full arg10.view _ inb_S262144_S262144_0 _ _).trans ?_
    have e1 : arg1.view.readAt (Elt F) (Rect.unit ![0, 0] ![2, 128] inb_S2x128_S2x128_0_0).toLoadRect (arg1.view.rep X0) = X0 :=
      View.readAt_rep_full ..
    have e2 : arg2.view.readAt (Elt F) (Rect.unit ![0, 0] ![2, 128] inb_S2x128_S2x128_0_0).toLoadRect (arg2.view.rep X1) = X1 :=
      View.readAt_rep_full ..
    have e3 : arg3.view.readAt (Elt F) (Rect.unit ![0, 0] ![1, 128] inb_S1x128_S1x128_0_0).toLoadRect (arg3.view.rep X2) = X2 :=
      View.readAt_rep_full ..
    have e4 : arg4.view.readAt (Elt F) (Rect.unit ![0] ![262144] inb_S262144_S262144_0).toLoadRect (arg4.view.rep X3) = X3 :=
      View.readAt_rep_full ..
    have e5 : arg5.view.readAt (Elt F) (Rect.unit ![0] ![262144] inb_S262144_S262144_0).toLoadRect (arg5.view.rep X4) = X4 :=
      View.readAt_rep_full ..
    have e6 : arg6.view.readAt (Elt F) (Rect.unit ![0] ![262144] inb_S262144_S262144_0).toLoadRect (arg6.view.rep X5) = X5 :=
      View.readAt_rep_full ..
    have e7 : arg7.view.readAt (Elt F) (Rect.unit ![0] ![262144] inb_S262144_S262144_0).toLoadRect (arg7.view.rep X6) = X6 :=
      View.readAt_rep_full ..
    have a0 : arg8.view.readAt (Elt F) (Rect.unit ![0, 0, 0] ![1, 2048, 128] inb_S2x2048x128_S1x2048x128_0_0_0).toLoadRect
        (arg8.view.rep X7) = amountPlane 0 X7 := View.readAt_rep_unit _ _ _ rfl _
    have a1 : arg8.view.readAt (Elt F) (Rect.unit ![1, 0, 0] ![1, 2048, 128] inb_S2x2048x128_S1x2048x128_1_0_0).toLoadRect
        (arg8.view.rep X7) = amountPlane 1 X7 := View.readAt_rep_unit _ _ _ rfl _
    have r0 : arg9.view.readAt (Elt F) (Rect.unit ![0, 0, 0] ![1, 2048, 128] inb_S4x2048x128_S1x2048x128_0_0_0).toLoadRect
        (arg9.view.rep X8) = rhoPlane 0 X8 := View.readAt_rep_unit _ _ _ rfl _
    have r1 : arg9.view.readAt (Elt F) (Rect.unit ![1, 0, 0] ![1, 2048, 128] inb_S4x2048x128_S1x2048x128_1_0_0).toLoadRect
        (arg9.view.rep X8) = rhoPlane 1 X8 := View.readAt_rep_unit _ _ _ rfl _
    have r2 : arg9.view.readAt (Elt F) (Rect.unit ![2, 0, 0] ![1, 2048, 128] inb_S4x2048x128_S1x2048x128_2_0_0).toLoadRect
        (arg9.view.rep X8) = rhoPlane 2 X8 := View.readAt_rep_unit _ _ _ rfl _
    have r3 : arg9.view.readAt (Elt F) (Rect.unit ![3, 0, 0] ![1, 2048, 128] inb_S4x2048x128_S1x2048x128_3_0_0).toLoadRect
        (arg9.view.rep X8) = rhoPlane 3 X8 := View.readAt_rep_unit _ _ _ rfl _
    rw [e1, e2, e3, e4, e5, e6, e7, a0, a1, r0, r1, r2, r3]
    rfl
-- ==== Proof.Block.lean ====
/-
  One lane of what the kernel's body stores: `Lane.lane` of the pair's table entries and of the lane's own scalars.

  The body reads a block of 262144 values as 2048 rows of 128; lane `k` of the block is row `k / 128`, column `k % 128`.
-/
module

public import proofs.«01_k».proof.Proof.Body
public import Idealize.ShloMosaic.Lib.ValueLayout

@[expose] public section

noncomputable section

namespace Cert.KernelIdeal.Proof

open Cert.KernelIdeal Cert.KernelIdeal.Gen

open Idealize.ShloMosaic Idealize.ShloMosaic.ValueIdx

variable {F : FTy → Type} [FloatOps F]

/-- The row and the column of a lane of a block. -/
def laneRow (k : S262144.Idx) : Fin 2048 := ⟨(k 0).val / 128, by have : (k 0).val < 262144 := (k 0).isLt; omega⟩
def laneCol (k : S262144.Idx) : Fin 128 := ⟨(k 0).val % 128, Nat.mod_lt _ (by decide)⟩

/-- The lane at row `a`, column `b`. -/
def laneAt (a : Fin 2048) (b : Fin 128) : S262144.Idx := ix1 (⟨a.val * 128 + b.val, by omega⟩ : Fin 262144)

theorem laneAt_row_col (k : S262144.Idx) : laneAt (laneRow k) (laneCol k) = k := by
  funext a
  match a with
  | ⟨0, _⟩ => exact Fin.ext (by show (k 0).val / 128 * 128 + (k 0).val % 128 = (k 0).val; omega)

/-- A block's vector laid out in rows, at a row and a column. -/
theorem rows_apply {α : Type} (x : S262144.Idx → α) (a : Fin 2048) (b : Fin 128) :
    shapeCast S2048x128 x shapeCasts_S262144_S2048x128 (ix2 a b) = x (laneAt a b) :=
  shapeCast_apply _ _ _ _ (by
    rw [Shape.rowMajor_val_one, Shape.rowMajor_val_two]
    rfl)

/-- Rows laid back out as a block's vector. -/
theorem unrows_apply {α : Type} (x : S2048x128.Idx → α) (k : S262144.Idx) :
    shapeCast S262144 x shapeCasts_S2048x128_S262144 k = x (ix2 (laneRow k) (laneCol k)) :=
  shapeCast_apply _ _ _ _ (by
    rw [Shape.rowMajor_val_one, Shape.rowMajor_val_two]
    show (k 0).val / 128 * 128 + (k 0).val % 128 = (k 0).val
    omega)

/-- A unit trailing axis put on and taken off leaves the vector. -/
theorem unit_roundtrip {α : Type} (x : S2048x128.Idx → α) :
    shapeCast S2048x128 (shapeCast S2048x128x1 x shapeCasts_S2048x128_S2048x128x1) shapeCasts_S2048x128x1_S2048x128 = x := by
  rw [shapeCast_shapeCast]

/-- The table at species row `a` and lane `c`. -/
def table (X0 X1 : S2x128.Idx → Elt F .f32) (X2 : S1x128.Idx → Elt F .i32) (a : Fin 2) (c : Fin 128) : F .f32 :=
  Lane.entry (X2 (ix2 0 c)) (X0 (ix2 a c)) (X1 (ix2 a c))

theorem pay2_apply (X0 X1 : S2x128.Idx → Elt F .f32) (X2 : S1x128.Idx → Elt F .i32) (a : Fin 2) (c : Fin 128) :
    k0_pay2 X0 X1 X2 (ix2 a c) = table X0 X1 X2 a c := by
  unfold k0_pay2
  simp only [shapeCast_self]
  have hb : ∀ (m : IVec S1x128 1), broadcastTo S2x128 m broadcasts_S1x128_S2x128 (ix2 a c) = m (ix2 0 c) := fun m =>
    broadcastTo_apply _ _ _ _ (fun x => match x with | ⟨0, _⟩ => rfl | ⟨1, _⟩ => rfl)
  show Scalar.select (broadcastTo S2x128 _ broadcasts_S1x128_S2x128 (ix2 a c)) _ _ = _
  rw [hb]
  rfl

theorem pay5_apply (X0 X1 : S2x128.Idx → Elt F .f32) (X2 : S1x128.Idx → Elt F .i32) (a : Fin 2048) (c : Fin 128) :
    k0_pay5 X0 X1 X2 (ix2 a c) = table X0 X1 X2 0 c := by
  unfold k0_pay5
  simp only [shapeCast_self]
  refine (broadcastTo_apply _ _ _ (ix2 0 c) (fun x => match x with | ⟨0, _⟩ => rfl | ⟨1, _⟩ => rfl)).trans ?_
  refine (extractStridedSlice_apply _ _ _ _ (ix2 0 c) (fun x => match x with | ⟨0, _⟩ => rfl | ⟨1, _⟩ => (Nat.zero_add _).symm)).trans ?_
  exact pay2_apply X0 X1 X2 0 c

theorem pay6_apply (X0 X1 : S2x128.Idx → Elt F .f32) (X2 : S1x128.Idx → Elt F .i32) (a : Fin 2048) (c : Fin 128) :
    k0_pay6 X0 X1 X2 (ix2 a c) = table X0 X1 X2 1 c := by
  unfold k0_pay6
  simp only [shapeCast_self]
  refine (broadcastTo_apply _ _ _ (ix2 0 c) (fun x => match x with | ⟨0, _⟩ => rfl | ⟨1, _⟩ => rfl)).trans ?_
  refine (extractStridedSlice_apply _ _ _ _ (ix2 1 c) (fun x => match x with | ⟨0, _⟩ => rfl | ⟨1, _⟩ => (Nat.zero_add _).symm)).trans ?_
  exact pay2_apply X0 X1 X2 1 c

/-- A gather along the lanes reads the row at the lane its index names. -/
theorem gather_apply (x : FVec F S2048x128 .f32) (y : IVec S2048x128 32) (a : Fin 2048) (b : Fin 128) :
    dynamicGather 1 x y (ix2 a b) = x (ix2 a ⟨(y (ix2 a b)).toNat % 128, Nat.mod_lt _ (by decide)⟩) :=
  congrArg x (funext fun i => match i with | ⟨0, _⟩ => rfl | ⟨1, _⟩ => rfl)

theorem pay8_apply (T : Fin 128 → F .f32) (x : FVec F S2048x128 .f32) (hx : ∀ a c, x (ix2 a c) = T c)
    (X : S262144.Idx → Elt F .i32) (a : Fin 2048) (b : Fin 128) :
    k0_pay8 x (k0_pay7 (F := F) X) (ix2 a b) = T (Lane.slot (X (laneAt a b))) := by
  unfold k0_pay8 k0_pay7 k0_pay3
  simp only [unit_roundtrip]
  refine (gather_apply _ _ a b).trans ((hx a _).trans (congrArg T (Fin.ext ?_)))
  rw [← rows_apply X a b]
  rfl

theorem pay9_apply (T : Fin 128 → F .f32) (x : FVec F S2048x128 .f32) (hx : ∀ a c, x (ix2 a c) = T c)
    (X : S262144.Idx → Elt F .i32) (a : Fin 2048) (b : Fin 128) :
    k0_pay9 (k0_pay3 (F := F) X) x (ix2 a b) = T (Lane.slot (X (laneAt a b))) := pay8_apply T x hx X a b

theorem pay10_apply (T : Fin 128 → F .f32) (x : FVec F S2048x128 .f32) (hx : ∀ a c, x (ix2 a c) = T c)
    (X : S262144.Idx → Elt F .i32) (a : Fin 2048) (b : Fin 128) :
    k0_pay10 (k0_pay4 (F := F) X) x (ix2 a b) = T (Lane.slot (X (laneAt a b))) := pay8_apply T x hx X a b

theorem pay11_apply (T : Fin 128 → F .f32) (x : FVec F S2048x128 .f32) (hx : ∀ a c, x (ix2 a c) = T c)
    (X : S262144.Idx → Elt F .i32) (a : Fin 2048) (b : Fin 128) :
    k0_pay11 (k0_pay4 (F := F) X) x (ix2 a b) = T (Lane.slot (X (laneAt a b))) := pay8_apply T x hx X a b

theorem pay12_apply (X : S262144.Idx → Elt F .f32) (a : Fin 2048) (b : Fin 128) :
    k0_pay12 X (ix2 a b) = Lane.gain (X (laneAt a b)) := by
  rw [← rows_apply X a b]
  rfl

/-- A plane of a block's densities, or of its amounts, at a row and a column. -/
theorem rhoPlane_apply (j : Fin 4) (X : S4x2048x128.Idx → Elt F .f32) (a : Fin 2048) (b : Fin 128) :
    shapeCast S2048x128 (rhoPlane j X) shapeCasts_S1x2048x128_S2048x128 (ix2 a b) = X (ix3 j a b) :=
  (shapeCast_1ab_ab_apply _ _ _ _).trans (congrArg X (funext fun i => match i with
    | ⟨0, _⟩ => Fin.ext rfl
    | ⟨1, _⟩ => Fin.ext (by show 0 + 1 * a.val = a.val; omega)
    | ⟨2, _⟩ => Fin.ext (by show 0 + 1 * b.val = b.val; omega)))

theorem amountPlane_apply (j : Fin 2) (X : S2x2048x128.Idx → Elt F .f32) (a : Fin 2048) (b : Fin 128) :
    shapeCast S2048x128 (amountPlane j X) shapeCasts_S1x2048x128_S2048x128 (ix2 a b) = X (ix3 j a b) :=
  (shapeCast_1ab_ab_apply _ _ _ _).trans (congrArg X (funext fun i => match i with
    | ⟨0, _⟩ => Fin.ext rfl
    | ⟨1, _⟩ => Fin.ext (by show 0 + 1 * a.val = a.val; omega)
    | ⟨2, _⟩ => Fin.ext (by show 0 + 1 * b.val = b.val; omega)))

/-- The lane result at one place of a block. -/
def laneOut (X0 X1 : S2x128.Idx → Elt F .f32) (X2 : S1x128.Idx → Elt F .i32) (X3 X4 : S262144.Idx → Elt F .i32)
    (X5 X6 : S262144.Idx → Elt F .f32) (X7 : S2x2048x128.Idx → Elt F .f32) (X8 : S4x2048x128.Idx → Elt F .f32)
    (k : S262144.Idx) : F .f32 :=
  Lane.lane (table X0 X1 X2 0 (Lane.slot (X3 k))) (table X0 X1 X2 1 (Lane.slot (X3 k)))
    (table X0 X1 X2 0 (Lane.slot (X4 k))) (table X0 X1 X2 1 (Lane.slot (X4 k))) (X5 k) (X6 k)
    (X7 (ix3 0 (laneRow k) (laneCol k))) (X7 (ix3 1 (laneRow k) (laneCol k)))
    (X8 (ix3 0 (laneRow k) (laneCol k))) (X8 (ix3 1 (laneRow k) (laneCol k)))
    (X8 (ix3 2 (laneRow k) (laneCol k))) (X8 (ix3 3 (laneRow k) (laneCol k)))

/-- The body's stored block, lane by lane. -/
theorem blockOut_apply (X0 X1 : S2x128.Idx → Elt F .f32) (X2 : S1x128.Idx → Elt F .i32) (X3 X4 : S262144.Idx → Elt F .i32)
    (X5 X6 : S262144.Idx → Elt F .f32) (X7 : S2x2048x128.Idx → Elt F .f32) (X8 : S4x2048x128.Idx → Elt F .f32)
    (k : S262144.Idx) : blockOut X0 X1 X2 X3 X4 X5 X6 X7 X8 k = laneOut X0 X1 X2 X3 X4 X5 X6 X7 X8 k := by
  have h5 := pay5_apply (F := F) X0 X1 X2
  have h6 := pay6_apply (F := F) X0 X1 X2
  set p : S2048x128.Idx := ix2 (laneRow k) (laneCol k) with hp
  have hk : laneAt (laneRow k) (laneCol k) = k := laneAt_row_col k
  have g8 : k0_pay8 (k0_pay5 X0 X1 X2) (k0_pay7 (F := F) X3) p = table X0 X1 X2 0 (Lane.slot (X3 k)) := by
    rw [hp, pay8_apply _ _ h5, hk]
  have g9 : k0_pay9 (k0_pay3 (F := F) X3) (k0_pay6 X0 X1 X2) p = table X0 X1 X2 1 (Lane.slot (X3 k)) := by
    rw [hp, pay9_apply _ _ h6, hk]
  have g10 : k0_pay10 (k0_pay4 (F := F) X4) (k0_pay5 X0 X1 X2) p = table X0 X1 X2 0 (Lane.slot (X4 k)) := by
    rw [hp, pay10_apply _ _ h5, hk]
  have g11 : k0_pay11 (k0_pay4 (F := F) X4) (k0_pay6 X0 X1 X2) p = table X0 X1 X2 1 (Lane.slot (X4 k)) := by
    rw [hp, pay11_apply _ _ h6, hk]
  have g12 : k0_pay12 X5 p = Lane.gain (X5 k) := by rw [hp, pay12_apply, hk]
  have gr : ∀ j, shapeCast S2048x128 (rhoPlane j X8) shapeCasts_S1x2048x128_S2048x128 p = X8 (ix3 j (laneRow k) (laneCol k)) :=
    fun j => rhoPlane_apply j X8 _ _
  have gn : ∀ j, shapeCast S2048x128 (amountPlane j X7) shapeCasts_S1x2048x128_S2048x128 p = X7 (ix3 j (laneRow k) (laneCol k)) :=
    fun j => amountPlane_apply j X7 _ _
  have g6 : shapeCast S2048x128 X6 shapeCasts_S262144_S2048x128 p = X6 k := by rw [hp, rows_apply, hk]
  unfold laneOut
  rw [← g8, ← g9, ← g10, ← g11, ← gr 0, ← gr 1, ← gr 2, ← gr 3, ← gn 0, ← gn 1, ← g6]
  unfold blockOut k0_pay1
  refine (unrows_apply _ k).trans ?_
  rw [← hp]
  unfold Lane.lane
  rw [← g12]
  rfl

end Cert.KernelIdeal.Proof

end
-- ==== Proof.Points.lean ====
/-
  What the staging buffers hold at each grid point, and the pipeline's proof data.

  The last block overhangs its arrays (2000000 = 7 · 262144 + 164992, and 164992 = 1289 · 128): the tail of a staging
  buffer there holds words nothing names. A lane inside the array reads only lanes inside the array.
-/
module

public import proofs.«01_k».proof.Proof.Block

@[expose] public section

noncomputable section

namespace Cert.KernelIdeal.Proof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] (m : (ℓ : Loc nD τ sig) → Buf (Elt F) ℓ)

/-! ## How far a block reaches into its array -/

/-- The number of a block's lanes inside the array at point `t`, and of its rows. -/
def lanesIn (t : Fin cfg0.N) : ℕ := if t.val < 7 then 262144 else 164992
def rowsIn (t : Fin cfg0.N) : ℕ := if t.val < 7 then 2048 else 1289

theorem row_lt (t : Fin cfg0.N) (k : S262144.Idx) (h : (k 0).val < lanesIn t) : (laneRow k).val < rowsIn t := by
  unfold lanesIn at h
  unfold rowsIn
  show (k 0).val / 128 < _
  by_cases ht : t.val < 7
  · rw [if_pos ht] at h ⊢; omega
  · rw [if_neg ht] at h ⊢; omega

theorem extent_vec (t : Fin cfg0.N) (ix : ℕ) (h : ix = t.val) : (Pipeline.Clip.of ix 262144 2000000).extent 262144 = lanesIn t := by
  have ht : t.val < 8 := N_0 ▸ t.isLt
  subst h
  unfold Pipeline.Clip.of lanesIn
  by_cases h7 : t.val < 7
  · rw [if_pos (by omega), if_pos h7]
  · rw [if_neg (by omega), if_neg h7]
    show 2000000 - t.val * 262144 = 164992
    omega

theorem extent_rows (t : Fin cfg0.N) (ix : ℕ) (h : ix = t.val) : (Pipeline.Clip.of ix 2048 15625).extent 2048 = rowsIn t := by
  have ht : t.val < 8 := N_0 ▸ t.isLt
  subst h
  unfold Pipeline.Clip.of rowsIn
  by_cases h7 : t.val < 7
  · rw [if_pos (by omega), if_pos h7]
  · rw [if_neg (by omega), if_neg h7]
    show 15625 - t.val * 2048 = 1289
    omega

theorem index_3 (t : Fin cfg0.N) : cc0_transform_3 (grid0.coords t) 0 = t.val := by
  rcases fin_N0 t with rfl | rfl | rfl | rfl | rfl | rfl | rfl | rfl <;> rfl
theorem index_7 (t : Fin cfg0.N) : cc0_transform_7 (grid0.coords t) 1 = t.val := by
  rcases fin_N0 t with rfl | rfl | rfl | rfl | rfl | rfl | rfl | rfl <;> rfl

theorem xsize_3 (t : Fin cfg0.N) : win0_3.xsize (grid0.coords t) 0 = lanesIn t := extent_vec t _ (index_3 t)
theorem xsize_4 (t : Fin cfg0.N) : win0_4.xsize (grid0.coords t) 0 = lanesIn t := extent_vec t _ (index_3 t)
theorem xsize_5 (t : Fin cfg0.N) : win0_5.xsize (grid0.coords t) 0 = lanesIn t := extent_vec t _ (index_3 t)
theorem xsize_6 (t : Fin cfg0.N) : win0_6.xsize (grid0.coords t) 0 = lanesIn t := extent_vec t _ (index_3 t)
theorem xsize_9 (t : Fin cfg0.N) : win0_9.xsize (grid0.coords t) 0 = lanesIn t := extent_vec t _ (index_3 t)
theorem xsize_7 (t : Fin cfg0.N) : win0_7.xsize (grid0.coords t) = ![2, rowsIn t, 128] :=
  funext fun a => match a with | ⟨0, _⟩ => rfl | ⟨1, _⟩ => extent_rows t _ (index_7 t) | ⟨2, _⟩ => rfl
theorem xsize_8 (t : Fin cfg0.N) : win0_8.xsize (grid0.coords t) = ![4, rowsIn t, 128] :=
  funext fun a => match a with | ⟨0, _⟩ => rfl | ⟨1, _⟩ => extent_rows t _ (index_7 t) | ⟨2, _⟩ => rfl

/-- A filled buffer at a place the transfer moved does not depend on what the buffer held before. -/
theorem fill_indep (w : Window sig grid0) {α : Type} (t : Fin cfg0.N) (d d' : w.block.Idx → α)
    (g : (w.xblock (grid0.coords t)).Idx → α) (k : w.block.Idx) (hx : ∀ a, (k a).val < w.xsize (grid0.coords t) a) :
    w.fill (grid0.coords t) d g k = w.fill (grid0.coords t) d' g k := by
  unfold Window.fill
  rw [dif_pos ((w.moved_iff _ _).mpr hx), dif_pos ((w.moved_iff _ _).mpr hx)]

/-! ## The proof data -/

/-- The six overhanging inputs' buffers at point `t`, their tails filled with zeros. -/
def buf3 (c : Dev nD) (t : Fin cfg0.N) : S262144.Idx → Elt F .i32 := win0_3.fill (grid0.coords t) (fun _ => (0#32 : BitVec 32)) (iblk m c 3 t)
def buf4 (c : Dev nD) (t : Fin cfg0.N) : S262144.Idx → Elt F .i32 := win0_4.fill (grid0.coords t) (fun _ => (0#32 : BitVec 32)) (iblk m c 4 t)
def buf5 (c : Dev nD) (t : Fin cfg0.N) : S262144.Idx → Elt F .f32 := win0_5.fill (grid0.coords t) (fun _ => Lane.zero) (iblk m c 5 t)
def buf6 (c : Dev nD) (t : Fin cfg0.N) : S262144.Idx → Elt F .f32 := win0_6.fill (grid0.coords t) (fun _ => Lane.zero) (iblk m c 6 t)
def buf7 (c : Dev nD) (t : Fin cfg0.N) : S2x2048x128.Idx → Elt F .f32 := win0_7.fill (grid0.coords t) (fun _ => Lane.zero) (iblk m c 7 t)
def buf8 (c : Dev nD) (t : Fin cfg0.N) : S4x2048x128.Idx → Elt F .f32 := win0_8.fill (grid0.coords t) (fun _ => Lane.zero) (iblk m c 8 t)

/-- What the body stores at point `t`. -/
def buf9 (c : Dev nD) (t : Fin cfg0.N) : S262144.Idx → Elt F .f32 :=
  blockOut (iblk m c 0 t) (iblk m c 1 t) (iblk m c 2 t) (buf3 m c t) (buf4 m c t) (buf5 m c t) (buf6 m c t) (buf7 m c t) (buf8 m c t)

/-- Inside the array, what the body stores does not depend on what the overhanging buffers' tails held. -/
theorem blockOut_inside (c : Dev nD) (t : Fin cfg0.N) (d3 d4 : S262144.Idx → Elt F .i32) (d5 d6 : S262144.Idx → Elt F .f32)
    (d7 : S2x2048x128.Idx → Elt F .f32) (d8 : S4x2048x128.Idx → Elt F .f32) :
    win0_9.cut (grid0.coords t) (blockOut (iblk m c 0 t) (iblk m c 1 t) (iblk m c 2 t)
      (win0_3.fill (grid0.coords t) d3 (iblk m c 3 t)) (win0_4.fill (grid0.coords t) d4 (iblk m c 4 t))
      (win0_5.fill (grid0.coords t) d5 (iblk m c 5 t)) (win0_6.fill (grid0.coords t) d6 (iblk m c 6 t))
      (win0_7.fill (grid0.coords t) d7 (iblk m c 7 t)) (win0_8.fill (grid0.coords t) d8 (iblk m c 8 t)))
      = win0_9.cut (grid0.coords t) (buf9 m c t) := by
  funext j
  have hj : (win0_9.xinj (grid0.coords t) j 0).val < lanesIn t := (xsize_9 t) ▸ (j 0).isLt
  have hr := row_lt t _ hj
  unfold buf9
  show blockOut _ _ _ _ _ _ _ _ _ (win0_9.xinj (grid0.coords t) j) = blockOut _ _ _ _ _ _ _ _ _ (win0_9.xinj (grid0.coords t) j)
  generalize win0_9.xinj (grid0.coords t) j = k at hj hr
  rw [blockOut_apply, blockOut_apply]
  have e3 : win0_3.fill (grid0.coords t) d3 (iblk m c 3 t) k = buf3 m c t k :=
    fill_indep win0_3 t _ _ _ k fun a => match a with | ⟨0, _⟩ => (xsize_3 t).symm ▸ hj
  have e4 : win0_4.fill (grid0.coords t) d4 (iblk m c 4 t) k = buf4 m c t k :=
    fill_indep win0_4 t _ _ _ k fun a => match a with | ⟨0, _⟩ => (xsize_4 t).symm ▸ hj
  have e5 : win0_5.fill (grid0.coords t) d5 (iblk m c 5 t) k = buf5 m c t k :=
    fill_indep win0_5 t _ _ _ k fun a => match a with | ⟨0, _⟩ => (xsize_5 t).symm ▸ hj
  have e6 : win0_6.fill (grid0.coords t) d6 (iblk m c 6 t) k = buf6 m c t k :=
    fill_indep win0_6 t _ _ _ k fun a => match a with | ⟨0, _⟩ => (xsize_6 t).symm ▸ hj
  have e7 : ∀ x : Fin 2, win0_7.fill (grid0.coords t) d7 (iblk m c 7 t) (ix3 x (laneRow k) (laneCol k))
      = buf7 m c t (ix3 x (laneRow k) (laneCol k)) := fun x =>
    fill_indep win0_7 t _ _ _ _ fun a => by
      rw [xsize_7 t]; exact match a with | ⟨0, _⟩ => x.isLt | ⟨1, _⟩ => hr | ⟨2, _⟩ => (laneCol k).isLt
  have e8 : ∀ x : Fin 4, win0_8.fill (grid0.coords t) d8 (iblk m c 8 t) (ix3 x (laneRow k) (laneCol k))
      = buf8 m c t (ix3 x (laneRow k) (laneCol k)) := fun x =>
    fill_indep win0_8 t _ _ _ _ fun a => by
      rw [xsize_8 t]; exact match a with | ⟨0, _⟩ => x.isLt | ⟨1, _⟩ => hr | ⟨2, _⟩ => (laneCol k).isLt
  unfold laneOut
  rw [e3, e4, e5, e6, e7, e7, e8, e8, e8, e8]

/-- The pipeline's proof data on device `c`: every array at what the host's operations leave; after the body, each
    input's buffer as it was and the output's at what the body stores; the library's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => buf3 m c t
    | ⟨4, _⟩ => buf4 m c t
    | ⟨5, _⟩ => buf5 m c t
    | ⟨6, _⟩ => buf6 m c t
    | ⟨7, _⟩ => buf7 m c t
    | ⟨8, _⟩ => buf8 m c t
    | ⟨9, _⟩ => buf9 m c t
  Φ _ := Pipeline.ΦA spec0 c
  q _ := fullShare
  owed _ := 0

/-! ## What the buffers hold before the body -/

theorem before_0 (c : Dev nD) (t : Fin cfg0.N) (d) : (dats m 0 c).before (0 : Fin 10) t d = iblk m c 0 t :=
  before0_0_of m (dats m 0 c) rfl (fun _ => rfl) t d
theorem before_1 (c : Dev nD) (t : Fin cfg0.N) (d) : (dats m 0 c).before (1 : Fin 10) t d = iblk m c 1 t :=
  before0_1_of m (dats m 0 c) rfl (fun _ => rfl) t d
theorem before_2 (c : Dev nD) (t : Fin cfg0.N) (d) : (dats m 0 c).before (2 : Fin 10) t d = iblk m c 2 t :=
  before0_2_of m (dats m 0 c) rfl (fun _ => rfl) t d
theorem before_3 (c : Dev nD) (t : Fin cfg0.N) (d) :
    (dats m 0 c).before (3 : Fin 10) t d = win0_3.fill (grid0.coords t) d (iblk m c 3 t) := by
  unfold Dat.before; rw [if_pos (fetch0_3 t)]; rfl
theorem before_4 (c : Dev nD) (t : Fin cfg0.N) (d) :
    (dats m 0 c).before (4 : Fin 10) t d = win0_4.fill (grid0.coords t) d (iblk m c 4 t) := by
  unfold Dat.before; rw [if_pos (fetch0_4 t)]; rfl
theorem before_5 (c : Dev nD) (t : Fin cfg0.N) (d) :
    (dats m 0 c).before (5 : Fin 10) t d = win0_5.fill (grid0.coords t) d (iblk m c 5 t) := by
  unfold Dat.before; rw [if_pos (fetch0_5 t)]; rfl
theorem before_6 (c : Dev nD) (t : Fin cfg0.N) (d) :
    (dats m 0 c).before (6 : Fin 10) t d = win0_6.fill (grid0.coords t) d (iblk m c 6 t) := by
  unfold Dat.before; rw [if_pos (fetch0_6 t)]; rfl
theorem before_7 (c : Dev nD) (t : Fin cfg0.N) (d) :
    (dats m 0 c).before (7 : Fin 10) t d = win0_7.fill (grid0.coords t) d (iblk m c 7 t) := by
  unfold Dat.before; rw [if_pos (fetch0_7 t)]; rfl
theorem before_8 (c : Dev nD) (t : Fin cfg0.N) (d) :
    (dats m 0 c).before (8 : Fin 10) t d = win0_8.fill (grid0.coords t) d (iblk m c 8 t) := by
  unfold Dat.before; rw [if_pos (fetch0_8 t)]; rfl
theorem before_9 (c : Dev nD) (t : Fin cfg0.N) (d) : (dats m 0 c).before (9 : Fin 10) t d = d := by
  unfold Dat.before
  rw [if_neg (by rw [show (cfg0.win (9 : Fin 10)).fetch t = false from rfl]; exact Bool.false_ne_true)]
  by_cases h : t.val = 0
  · exact if_pos h
  · rw [if_neg h]; exact if_pos (flush0_9 _)

/-! ## The body's obligation -/

set_option maxHeartbeats 1000000 in
theorem body_obligation (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8, before_9 m c t d9]
  iapply (sound_body (F := F) c Set.univ (grid0.coords t)
    (stage0_0 (cfg0.slots t 0)) (hstage0_0 _) (stage0_1 (cfg0.slots t 1)) (hstage0_1 _) (stage0_2 (cfg0.slots t 2)) (hstage0_2 _)
    (stage0_3 (cfg0.slots t 3)) (hstage0_3 _) (stage0_4 (cfg0.slots t 4)) (hstage0_4 _) (stage0_5 (cfg0.slots t 5)) (hstage0_5 _)
    (stage0_6 (cfg0.slots t 6)) (hstage0_6 _) (stage0_7 (cfg0.slots t 7)) (hstage0_7 _) (stage0_8 (cfg0.slots t 8)) (hstage0_8 _)
    (stage0_9 (cfg0.slots t 9)) (hstage0_9 _)
    (iblk m c 0 t) (iblk m c 1 t) (iblk m c 2 t)
    (win0_3.fill (grid0.coords t) d3 (iblk m c 3 t)) (win0_4.fill (grid0.coords t) d4 (iblk m c 4 t))
    (win0_5.fill (grid0.coords t) d5 (iblk m c 5 t)) (win0_6.fill (grid0.coords t) d6 (iblk m c 6 t))
    (win0_7.fill (grid0.coords t) d7 (iblk m c 7 t)) (win0_8.fill (grid0.coords t) d8 (iblk m c 8 t)) d9 _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]
  · iexists d3
    change _ ⊢ owns (c : Thread nD τ) (stage0_3 (cfg0.slots t 3)) fullShare (win0_3.fill (grid0.coords t) d3 (win0_3.cut (grid0.coords t) (buf3 m c t)))
    rw [show win0_3.cut (grid0.coords t) (buf3 m c t) = iblk m c 3 t from win0_3.cut_fill _ _ _]; try iexact H3
  isplitl [H4]
  · iexists d4
    change _ ⊢ owns (c : Thread nD τ) (stage0_4 (cfg0.slots t 4)) fullShare (win0_4.fill (grid0.coords t) d4 (win0_4.cut (grid0.coords t) (buf4 m c t)))
    rw [show win0_4.cut (grid0.coords t) (buf4 m c t) = iblk m c 4 t from win0_4.cut_fill _ _ _]; try iexact H4
  isplitl [H5]
  · iexists d5
    change _ ⊢ owns (c : Thread nD τ) (stage0_5 (cfg0.slots t 5)) fullShare (win0_5.fill (grid0.coords t) d5 (win0_5.cut (grid0.coords t) (buf5 m c t)))
    rw [show win0_5.cut (grid0.coords t) (buf5 m c t) = iblk m c 5 t from win0_5.cut_fill _ _ _]; try iexact H5
  isplitl [H6]
  · iexists d6
    change _ ⊢ owns (c : Thread nD τ) (stage0_6 (cfg0.slots t 6)) fullShare (win0_6.fill (grid0.coords t) d6 (win0_6.cut (grid0.coords t) (buf6 m c t)))
    rw [show win0_6.cut (grid0.coords t) (buf6 m c t) = iblk m c 6 t from win0_6.cut_fill _ _ _]; try iexact H6
  isplitl [H7]
  · iexists d7
    change _ ⊢ owns (c : Thread nD τ) (stage0_7 (cfg0.slots t 7)) fullShare (win0_7.fill (grid0.coords t) d7 (win0_7.cut (grid0.coords t) (buf7 m c t)))
    rw [show win0_7.cut (grid0.coords t) (buf7 m c t) = iblk m c 7 t from win0_7.cut_fill _ _ _]; try iexact H7
  isplitl [H8]
  · iexists d8
    change _ ⊢ owns (c : Thread nD τ) (stage0_8 (cfg0.slots t 8)) fullShare (win0_8.fill (grid0.coords t) d8 (win0_8.cut (grid0.coords t) (buf8 m c t)))
    rw [show win0_8.cut (grid0.coords t) (buf8 m c t) = iblk m c 8 t from win0_8.cut_fill _ _ _]; try iexact H8
  · iexists (blockOut (iblk m c 0 t) (iblk m c 1 t) (iblk m c 2 t)
      (win0_3.fill (grid0.coords t) d3 (iblk m c 3 t)) (win0_4.fill (grid0.coords t) d4 (iblk m c 4 t))
      (win0_5.fill (grid0.coords t) d5 (iblk m c 5 t)) (win0_6.fill (grid0.coords t) d6 (iblk m c 6 t))
      (win0_7.fill (grid0.coords t) d7 (iblk m c 7 t)) (win0_8.fill (grid0.coords t) d8 (iblk m c 8 t)))
    change _ ⊢ owns (c : Thread nD τ) (stage0_9 (cfg0.slots t 9)) fullShare (win0_9.fill (grid0.coords t) _ (win0_9.cut (grid0.coords t) (buf9 m c t)))
    rw [← blockOut_inside m c t d3 d4 d5 d6 d7 d8, win0_9.fill_cut]; try iexact H9

end Cert.KernelIdeal.Proof

end
-- ==== Proof.Run.lean ====
/-
  The launch: every execution ends, with the counters at zero, every windowed array at what the proof data says and
  every other buffer as the host's operations left it.
-/
module

public import proofs.«01_k».proof.Proof.Points

@[expose] public section

noncomputable section

namespace Cert.KernelIdeal.Proof

open Cert.KernelIdeal Cert.KernelIdeal.Gen

open Idealize.ShloMosaic Idealize.ShloMosaic.TcCoe
open Idealize.SL Idealize.SL.RA Idealize.SL.BI Idealize.SL.Sem

variable {F : FTy → Type} [FloatOps F] (m : (ℓ : Loc nD τ sig) → Buf (Elt F) ℓ) (ρ : Dev nD → PrngReg)

set_option backward.isDefEq.respectTransparency.types false in
/-- The kernel program's run. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) (0 : Fin 1) launch0 defs₀ 𝒱₀ m ρ main
    (fun c => body_obligation m c) (fun c => (dats m 0 c).share_full fun _ => rfl) (fun _ _ => rfl) (V m) (hmain m 𝒱₀)
    (fun _ _ => rfl) (fun _ _ => rfl) _ (fun _ h => h)

/-- The frame: the run ends with the ten arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  θ_run_with_sems (frame_of m ρ (dats m) (fun _ _ => rfl)) (run_main m ρ)

end Cert.KernelIdeal.Proof

end
-- ==== Proof.KernelFrame.lean ====
/-
  The compiled program's frame. The program printed for the idealised reading is the compiled program's own text, so the
  run proved there over any float values is the compiled program's at bit patterns.
-/
module

public import proofs.«01_k».proof.Defs
public import proofs.«01_k».proof.Proof.Gen.Kernel.Frame
public import proofs.«01_k».proof.Proof.Run

@[expose] public section

noncomputable section

namespace Cert.Kernel.Proof

open Idealize.ShloMosaic Idealize.SL.Sem

/-- The two programs' kernels are one body, -/
theorem defs₀_eq : Cert.Kernel.defs₀ (F := Bits) = Cert.KernelIdeal.defs₀ (F := Bits) :=
  congrArg Defs.onTc (funext fun l => funext fun x => match l, x with
    | 0, (_, _) => rfl
    | ⟨_ + 1, h⟩, _ => absurd h (Nat.not_lt.2 (Nat.le_add_left _ _)))

/-- and so their body tables are one. -/
theorem defs_eq : Cert.Kernel.defs (F := Bits) = Cert.KernelIdeal.defs (F := Bits) :=
  congrArg (Pipeline.defs Cert.Kernel.pcfgs) defs₀_eq

set_option maxHeartbeats 1000000 in
theorem frame : Cert.quiescent_Kernel (hKernel := Cert.Kernel.Gen.facts) := fun m g _ => by
  rw [defs_eq]
  exact Cert.KernelIdeal.Proof.run_frame (F := Bits) m g

end Cert.Kernel.Proof

end
-- ==== Proof.RefGather.lean ====
/-
  The reference's gathers read at an element: the mask and the tables at the species the element's index names.
-/
module

public import proofs.«01_k».proof.Proof.Gen.ReferenceIdeal.Run
public import Idealize.ShloMosaic.Lib.ValueLayout

@[expose] public section

noncomputable section

namespace Cert.ReferenceIdeal.Proof

open Cert.ReferenceIdeal Cert.ReferenceIdeal.Gen

open Idealize.ShloMosaic Idealize.ShloMosaic.ValueIdx

variable {F : FTy → Type} [FloatOps F]

/-- The mask's gather at element `b`, whose start index names species `s`. -/
theorem gather_mask {α : Type} (x : S64.Idx → α) (idx : IVec S2000000x1 32) (b : S2000000.Idx) (s : Fin 64)
    (h : (idx (ix2 (b 0) 0)).toInt = (s.val : ℤ)) :
    Host.gather gather_S64_S2000000x1_S2000000_n_0_n_n_0_1_1 x idx b = x (ix1 s) := by
  unfold Host.gather
  refine congrArg x (funext fun a => Fin.ext ?_)
  obtain rfl : a = 0 := Subsingleton.elim _ _
  show GatherDims.start _ b idx 0 + GatherDims.batchCoord _ b 0 + GatherDims.offCoord _ b 0 = s.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S64_S2000000x1_S2000000_n_0_n_n_0_1_1.startIndexMap from List.mem_singleton.mpr rfl)]
  have hsi : gather_S64_S2000000x1_S2000000_n_0_n_n_0_1_1.siIdx b
      ⟨List.idxOf (0 : Fin 1) gather_S64_S2000000x1_S2000000_n_0_n_n_0_1_1.startIndexMap,
        List.idxOf_lt_length_iff.2 (List.mem_singleton.mpr rfl)⟩ = ix2 (b 0) 0 :=
    funext fun x => Fin.ext (match x with | ⟨0, _⟩ => rfl | ⟨1, _⟩ => rfl)
  have := s.isLt
  refine (congrArg (fun k => min (idx k).toInt.toNat (64 - 1) + 0 + 0) hsi).trans ?_
  show min (idx (ix2 (b 0) 0)).toInt.toNat (64 - 1) + 0 + 0 = s.val
  rw [h, Int.toNat_natCast]
  omega

/-- A table's gather at element `b`, whose start indices name species `s` and column `a`. -/
theorem gather_table {α : Type} (x : S64x2.Idx → α) (idx : IVec S2000000x2 32) (b : S2000000.Idx) (s : Fin 64) (a : Fin 2)
    (h0 : (idx (ix2 (b 0) 0)).toInt = (s.val : ℤ)) (h1 : (idx (ix2 (b 0) 1)).toInt = (a.val : ℤ)) :
    Host.gather gather_S64x2_S2000000x2_S2000000_n_01_n_n_01_1_11 x idx b = x (ix2 s a) := by
  unfold Host.gather
  refine congrArg x (funext fun e => Fin.ext ?_)
  show GatherDims.start _ b idx e + GatherDims.batchCoord _ b e + GatherDims.offCoord _ b e = (ix2 s a e).val
  have he : e ∈ gather_S64x2_S2000000x2_S2000000_n_01_n_n_01_1_11.startIndexMap := by
    match e with
    | ⟨0, _⟩ => exact List.mem_cons_self
    | ⟨1, _⟩ => exact List.mem_cons_of_mem _ (List.mem_singleton.mpr rfl)
  rw [GatherDims.batchCoord_eq_zero _ _ _ List.not_mem_nil,
    GatherDims.offCoord_eq_zero _ _ _ (fun h => ((GatherDims.mem_sKept _ _).mp h).1 he)]
  unfold GatherDims.start
  rw [dif_pos he]
  match e, he with
  | ⟨0, _⟩, he =>
    have hsi : gather_S64x2_S2000000x2_S2000000_n_01_n_n_01_1_11.siIdx b
        ⟨List.idxOf (0 : Fin 2) gather_S64x2_S2000000x2_S2000000_n_01_n_n_01_1_11.startIndexMap,
          List.idxOf_lt_length_iff.2 he⟩ = ix2 (b 0) 0 :=
      funext fun x => Fin.ext (match x with | ⟨0, _⟩ => rfl | ⟨1, _⟩ => rfl)
    have := s.isLt
    refine (congrArg (fun k => min (idx k).toInt.toNat (64 - 1) + 0 + 0) hsi).trans ?_
    show min (idx (ix2 (b 0) 0)).toInt.toNat (64 - 1) + 0 + 0 = s.val
    rw [h0, Int.toNat_natCast]
    omega
  | ⟨1, _⟩, he =>
    have hsi : gather_S64x2_S2000000x2_S2000000_n_01_n_n_01_1_11.siIdx b
        ⟨List.idxOf (1 : Fin 2) gather_S64x2_S2000000x2_S2000000_n_01_n_n_01_1_11.startIndexMap,
          List.idxOf_lt_length_iff.2 he⟩ = ix2 (b 0) 1 :=
      funext fun x => Fin.ext (match x with | ⟨0, _⟩ => rfl | ⟨1, _⟩ => rfl)
    have := a.isLt
    refine (congrArg (fun k => min (idx k).toInt.toNat (2 - 1) + 0 + 0) hsi).trans ?_
    show min (idx (ix2 (b 0) 1)).toInt.toNat (2 - 1) + 0 + 0 = a.val
    rw [h1, Int.toNat_natCast]
    omega

/-- A vector laid out as one column. -/
theorem column_apply {α : Type} (x : S2000000.Idx → α) (b : S2000000.Idx) :
    broadcastInDim S2000000x1 ![0] bcast_S2000000_S2000000x1_0 x (ix2 (b 0) 0) = x b :=
  broadcastInDim_apply _ _ _ _ _ (fun a => match a with | ⟨0, _⟩ => rfl)

/-- Two columns side by side. -/
theorem pair_apply {α : Type} (x y : S2000000x1.Idx → α) (b : S2000000.Idx) :
    concatenate S2000000x2 1 [⟨S2000000x1, x⟩, ⟨S2000000x1, y⟩] concatenates_S2000000x1_S2000000x1_S2000000x2_d1 (ix2 (b 0) 0)
        = x (ix2 (b 0) 0)
      ∧ concatenate S2000000x2 1 [⟨S2000000x1, x⟩, ⟨S2000000x1, y⟩] concatenates_S2000000x1_S2000000x1_S2000000x2_d1 (ix2 (b 0) 1)
        = y (ix2 (b 0) 0) :=
  ⟨concatenate_pair_apply_left (t := S2000000x2) (s₁ := S2000000x1) (s₂ := S2000000x1) 1 x y
      concatenates_S2000000x1_S2000000x1_S2000000x2_d1 (ix2 (b 0) 0) rfl (ix2 (b 0) 0)
      (fun a => match a with | ⟨0, _⟩ => rfl | ⟨1, _⟩ => rfl),
    concatenate_pair_apply_right (t := S2000000x2) (s₁ := S2000000x1) (s₂ := S2000000x1) 1 x y
      concatenates_S2000000x1_S2000000x1_S2000000x2_d1 (ix2 (b 0) 1) rfl rfl (ix2 (b 0) 0)
      (fun a => match a with | ⟨0, _⟩ => fun _ => rfl | ⟨1, _⟩ => fun h => absurd rfl h) rfl⟩

/-- An index that is not negative is read as it stands. -/
theorem wrap_apply (i n : BitVec 32) (s : ℕ) (h : i.toInt = (s : ℤ)) :
    Scalar.select (IntOp.cmpi .slt i 0#32) (IntOp.addi i n) i = i := by
  have : IntOp.cmpi .slt i 0#32 = 0#1 := by
    show BitVec.ofBool (BitVec.slt i 0#32) = 0#1
    have hs : BitVec.slt i 0#32 = false := by
      rw [BitVec.slt_eq_decide, decide_eq_false_iff_not]
      show ¬ i.toInt < 0
      omega
    rw [hs]; rfl
  rw [this]
  rfl

end Cert.ReferenceIdeal.Proof

end
-- ==== Proof.RefLane.lean ====
/-
  What the reference computes at ONE element, as scalar formulas: the same model as the kernel's lane, written the way
  the reference writes it (the densities' and strengths' quotients kept apart, the site fraction inverted before the
  logarithm).
-/
module

public import proofs.«01_k».proof.Proof.Lane

@[expose] public section

noncomputable section

namespace Cert.RefLane

open Idealize.ShloMosaic
open Cert.Lane (zero one two half gain strength isZero scaled)

variable {F : FTy → Type} [FloatOps F]

/-- The softplus of an energy: the larger of x and 0 plus log1p(exp(-|x - 0|)), or x + 0 where x - 0 is not a number. -/
def softplus (x : F .f32) : F .f32 :=
  Scalar.select (FloatOps.cmpf .une (FloatOps.subf x zero) (FloatOps.subf x zero)) (FloatOps.addf x zero)
    (FloatOps.addf (FloatOps.maximumf x zero) (FloatOps.log1p (FloatOps.exp (FloatOps.negf (FloatOps.absf (FloatOps.subf x zero))))))

/-- The number under the square root: a² - 2a(d - 1) + (d + 1)². -/
def radicand (a d : F .f32) : F .f32 :=
  FloatOps.addf (FloatOps.subf (FloatOps.mulf a a) (FloatOps.mulf (FloatOps.mulf two a) (FloatOps.subf d one)))
    (FloatOps.mulf (FloatOps.addf d one) (FloatOps.addf d one))

/-- The fraction of free sites of one kind: `z` says this kind's density `ρa` is zero, `z'` the other's `ρd`. -/
def fraction (z z' : BitVec 1) (a d ρa ρd : F .f32) : F .f32 :=
  Scalar.select z' one (Scalar.select z (FloatOps.divf one d)
    (FloatOps.subf
      (FloatOps.subf (FloatOps.addf (FloatOps.divf (FloatOps.sqrt (radicand a d)) (FloatOps.mulf two a)) half)
        (FloatOps.divf ρd (FloatOps.mulf two ρa)))
      (FloatOps.divf one (FloatOps.mulf two a))))

/-- A site's contribution: n · (log(1/u/x) + (x - 1)/2), or zero where the amount n is zero. -/
def siteTerm (n x u : F .f32) : F .f32 :=
  Scalar.select (isZero n) zero
    (FloatOps.mulf n (FloatOps.addf (FloatOps.log (FloatOps.divf (FloatOps.divf one u) x))
      (FloatOps.divf (FloatOps.subf x one) two)))

/-- One plus strength times density times fraction. -/
def uptake (strength ρ x : F .f32) : F .f32 := FloatOps.addf one (FloatOps.mulf (FloatOps.mulf strength ρ) x)

/-- The bonds' contribution: r · (ρ₂·(1 - x)/2 + ρ₃·(1 - y)/2). -/
def bondTerm (r ρ2 ρ3 x y : F .f32) : F .f32 :=
  FloatOps.mulf r (FloatOps.addf (FloatOps.divf (FloatOps.mulf ρ2 (FloatOps.subf one x)) two)
    (FloatOps.divf (FloatOps.mulf ρ3 (FloatOps.subf one y)) two))

/-- One element's result, from the pair's four table entries, the inverse temperature, the multiplicity, the two amounts
    and the four densities. -/
def lane (p0 p1 q0 q1 invT r n0 n1 ρ0 ρ1 ρ2 ρ3 : F .f32) : F .f32 :=
  let g := gain invT
  let am := scaled (strength q0 q1 g) ρ2
  let dm := scaled (strength q0 q1 g) ρ3
  let xam := fraction (isZero ρ2) (isZero ρ3) am dm ρ2 ρ3
  let xdm := fraction (isZero ρ3) (isZero ρ2) dm am ρ3 ρ2
  let ap := scaled (strength p0 p1 g) ρ0
  let dp := scaled (strength p0 p1 g) ρ1
  let xap := fraction (isZero ρ0) (isZero ρ1) ap dp ρ0 ρ1
  let xdp := fraction (isZero ρ1) (isZero ρ0) dp ap ρ1 ρ0
  FloatOps.addf
    (FloatOps.addf (siteTerm n0 xap (uptake (strength p0 q1 g) ρ3 xdm)) (siteTerm n1 xdp (uptake (strength q0 p1 g) ρ2 xam)))
    (bondTerm r ρ2 ρ3 xam xdm)

/-- One entry of the table: the softplus of the free energy where the mask is set, of the fixed one elsewhere. -/
def entry (mask : BitVec 1) (free fixed : F .f32) : F .f32 := Scalar.select mask (softplus free) (softplus fixed)

end Cert.RefLane

end
-- ==== Proof.RefValue.lean ====
/-
  What the reference's result holds at an element whose two indices name species: `RefLane.lane` of the tables' entries
  and of the element's own scalars.
-/
module

public import proofs.«01_k».proof.Proof.RefGather
public import proofs.«01_k».proof.Proof.RefLane
public import Idealize.ShloMosaic.PureOps.Ideal

@[expose] public section

noncomputable section

namespace Cert.ReferenceIdeal.Proof

open Cert.ReferenceIdeal Cert.ReferenceIdeal.Gen Cert.ReferenceIdeal.Value

open Idealize.ShloMosaic Idealize.ShloMosaic.ValueIdx
open Idealize.ShloMosaic.StableHlo
open Cert.Lane (zero one two half gain strength isZero scaled)

variable (V0 : Valuation τ sig (Elt Ideal))

/-- The arguments, each at its literal shape. -/
def energies : S64x2.Idx → Elt Ideal .f32 := V0 (Proc.devRef .tc main_arg0)
def energiesFixed : S64x2.Idx → Elt Ideal .f32 := V0 (Proc.devRef .tc main_arg1)
def firsts : S2000000.Idx → Elt Ideal .i32 := V0 (Proc.devRef .tc main_arg2)
def seconds : S2000000.Idx → Elt Ideal .i32 := V0 (Proc.devRef .tc main_arg3)
def invTs : S2000000.Idx → Elt Ideal .f32 := V0 (Proc.devRef .tc main_arg4)
def ratios : S2000000.Idx → Elt Ideal .f32 := V0 (Proc.devRef .tc main_arg5)
def amounts : S2000000x2.Idx → Elt Ideal .f32 := V0 (Proc.devRef .tc main_arg7)
def densities : S2000000x4.Idx → Elt Ideal .f32 := V0 (Proc.devRef .tc main_arg8)
def masks : S64.Idx → Elt Ideal .i1 := V0 (Proc.devRef .tc main_arg9)

/-- The table's entry of species `s` in column `a`. -/
def tableAt (s : Fin 64) (a : Fin 2) : Ideal .f32 :=
  RefLane.entry (masks V0 (ix1 s)) (energies V0 (ix2 s a)) (energiesFixed V0 (ix2 s a))

/-! ## The columns of the densities and of the amounts -/

theorem vec_of_column {α : Type} (x : S2000000x1.Idx → α) (b : S2000000.Idx) :
    shapeCast S2000000 x shapeCasts_S2000000x1_S2000000 b = x (ix2 (b 0) 0) :=
  shapeCast_apply _ _ _ _ (by
    rw [Shape.rowMajor_val_one, Shape.rowMajor_val_two]
    show (b 0).val * 1 + 0 = (b 0).val
    omega)

theorem v1_apply (b : S2000000.Idx) : res_main_v1 V0 b = densities V0 (ix2 (b 0) 0) :=
  (vec_of_column _ b).trans (extractStridedSlice_apply _ _ _ _ _ (fun a => match a with | ⟨0, _⟩ => (Nat.zero_add _).symm | ⟨1, _⟩ => rfl))
theorem v3_apply (b : S2000000.Idx) : res_main_v3 V0 b = densities V0 (ix2 (b 0) 1) :=
  (vec_of_column _ b).trans (extractStridedSlice_apply _ _ _ _ _ (fun a => match a with | ⟨0, _⟩ => (Nat.zero_add _).symm | ⟨1, _⟩ => rfl))
theorem v5_apply (b : S2000000.Idx) : res_main_v5 V0 b = densities V0 (ix2 (b 0) 2) :=
  (vec_of_column _ b).trans (extractStridedSlice_apply _ _ _ _ _ (fun a => match a with | ⟨0, _⟩ => (Nat.zero_add _).symm | ⟨1, _⟩ => rfl))
theorem v7_apply (b : S2000000.Idx) : res_main_v7 V0 b = densities V0 (ix2 (b 0) 3) :=
  (vec_of_column _ b).trans (extractStridedSlice_apply _ _ _ _ _ (fun a => match a with | ⟨0, _⟩ => (Nat.zero_add _).symm | ⟨1, _⟩ => rfl))
theorem v9_apply (b : S2000000.Idx) : res_main_v9 V0 b = amounts V0 (ix2 (b 0) 0) :=
  (vec_of_column _ b).trans (extractStridedSlice_apply _ _ _ _ _ (fun a => match a with | ⟨0, _⟩ => (Nat.zero_add _).symm | ⟨1, _⟩ => rfl))
theorem v11_apply (b : S2000000.Idx) : res_main_v11 V0 b = amounts V0 (ix2 (b 0) 1) :=
  (vec_of_column _ b).trans (extractStridedSlice_apply _ _ _ _ _ (fun a => match a with | ⟨0, _⟩ => (Nat.zero_add _).symm | ⟨1, _⟩ => rfl))

/-! ## The tables and the temperature factor -/

theorem v19_apply (k : S64x2.Idx) : res_main_v19 V0 k = RefLane.softplus (F := Ideal) (energies V0 k) := rfl
theorem v20_apply (k : S64x2.Idx) : res_main_v20 V0 k = RefLane.softplus (F := Ideal) (energiesFixed V0 k) := rfl
theorem v18_apply (b : S2000000.Idx) : res_main_v18 V0 b = gain (F := Ideal) (invTs V0 b) := rfl

/-- An index array with its negative words counted from the end, as a column. -/
def wrapped (i : S2000000.Idx → BitVec 32) : S2000000x1.Idx → BitVec 32 :=
  broadcastInDim S2000000x1 ![0] bcast_S2000000_S2000000x1_0
    (select (cmpi .slt i (broadcastInDim S2000000 ![] bcast_S_S2000000 (constantI S_ 32 0#32)))
      (addi i (broadcastInDim S2000000 ![] bcast_S_S2000000 (constantI S_ 32 64#32))) i)

theorem wrapped_apply (i : S2000000.Idx → BitVec 32) (b : S2000000.Idx) (s : Fin 64) (h : (i b).toInt = (s.val : ℤ)) :
    (wrapped i (ix2 (b 0) 0)).toInt = (s.val : ℤ) := by
  unfold wrapped
  rw [column_apply]
  refine (congrArg BitVec.toInt ?_).trans h
  exact wrap_apply (i b) 64#32 s.val h

/-- A column holding one word. -/
def columnOf (w : BitVec 32) : S2000000x1.Idx → BitVec 32 :=
  broadcastInDim S2000000x1 ![0] bcast_S2000000_S2000000x1_0 (id (broadcastInDim S2000000 ![] bcast_S_S2000000 (constantI S_ 32 w)))

/-- The gather of a table at an index array's species and a fixed column. -/
theorem lookup (x : S64x2.Idx → Ideal .f32) (i : S2000000.Idx → BitVec 32) (w : BitVec 32) (b : S2000000.Idx) (s : Fin 64)
    (a : Fin 2) (h : (i b).toInt = (s.val : ℤ)) (hw : w.toInt = (a.val : ℤ)) :
    Host.gather gather_S64x2_S2000000x2_S2000000_n_01_n_n_01_1_11 x (concatenate S2000000x2 1
      [⟨S2000000x1, wrapped i⟩, ⟨S2000000x1, columnOf w⟩] concatenates_S2000000x1_S2000000x1_S2000000x2_d1) b = x (ix2 s a) :=
  gather_table x _ b s a (((congrArg BitVec.toInt (pair_apply (wrapped i) (columnOf w) b).1)).trans (wrapped_apply i b s h))
    ((congrArg BitVec.toInt (pair_apply (wrapped i) (columnOf w) b).2).trans hw)

/-- The entry chosen by the gathered mask. -/
theorem entry_apply (i : S2000000.Idx → BitVec 32) (w : BitVec 32) (b : S2000000.Idx) (s : Fin 64) (a : Fin 2)
    (h : (i b).toInt = (s.val : ℤ)) (hw : w.toInt = (a.val : ℤ)) :
    select (Host.gather gather_S64_S2000000x1_S2000000_n_0_n_n_0_1_1 (masks V0) (wrapped i))
      (Host.gather gather_S64x2_S2000000x2_S2000000_n_01_n_n_01_1_11 (res_main_v19 V0) (concatenate S2000000x2 1
        [⟨S2000000x1, wrapped i⟩, ⟨S2000000x1, columnOf w⟩] concatenates_S2000000x1_S2000000x1_S2000000x2_d1))
      (Host.gather gather_S64x2_S2000000x2_S2000000_n_01_n_n_01_1_11 (res_main_v20 V0) (concatenate S2000000x2 1
        [⟨S2000000x1, wrapped i⟩, ⟨S2000000x1, columnOf w⟩] concatenates_S2000000x1_S2000000x1_S2000000x2_d1)) b
      = tableAt V0 s a := by
  show Scalar.select _ _ _ = _
  rw [gather_mask _ _ b s (wrapped_apply i b s h), lookup _ i w b s a h hw, lookup _ i w b s a h hw]
  rfl

theorem v57_apply (b : S2000000.Idx) (s : Fin 64) (h : (firsts V0 b).toInt = (s.val : ℤ)) :
    res_main_v57 V0 b = tableAt V0 s 0 := entry_apply V0 (firsts V0) 0#32 b s 0 h rfl
theorem v80_apply (b : S2000000.Idx) (s : Fin 64) (h : (firsts V0 b).toInt = (s.val : ℤ)) :
    res_main_v80 V0 b = tableAt V0 s 1 := entry_apply V0 (firsts V0) 1#32 b s 1 h rfl
theorem v103_apply (b : S2000000.Idx) (s : Fin 64) (h : (seconds V0 b).toInt = (s.val : ℤ)) :
    res_main_v103 V0 b = tableAt V0 s 0 := entry_apply V0 (seconds V0) 0#32 b s 0 h rfl
theorem v126_apply (b : S2000000.Idx) (s : Fin 64) (h : (seconds V0 b).toInt = (s.val : ℤ)) :
    res_main_v126 V0 b = tableAt V0 s 1 := entry_apply V0 (seconds V0) 1#32 b s 1 h rfl

/-! ## The fractions, in the elements of the arrays they are computed from -/

theorem v141_eq (b : S2000000.Idx) : res_main_v141 V0 b
    = scaled (strength (res_main_v103 V0 b) (res_main_v126 V0 b) (res_main_v18 V0 b)) (res_main_v5 V0 b) := rfl
theorem v142_eq (b : S2000000.Idx) : res_main_v142 V0 b
    = scaled (strength (res_main_v103 V0 b) (res_main_v126 V0 b) (res_main_v18 V0 b)) (res_main_v7 V0 b) := rfl
theorem v209_eq (b : S2000000.Idx) : res_main_v209 V0 b
    = scaled (strength (res_main_v57 V0 b) (res_main_v80 V0 b) (res_main_v18 V0 b)) (res_main_v1 V0 b) := rfl
theorem v210_eq (b : S2000000.Idx) : res_main_v210 V0 b
    = scaled (strength (res_main_v57 V0 b) (res_main_v80 V0 b) (res_main_v18 V0 b)) (res_main_v3 V0 b) := rfl
theorem v198_eq (b : S2000000.Idx) : res_main_v198 V0 b = RefLane.fraction (isZero (res_main_v5 V0 b)) (isZero (res_main_v7 V0 b))
    (res_main_v141 V0 b) (res_main_v142 V0 b) (res_main_v5 V0 b) (res_main_v7 V0 b) := rfl
theorem v202_eq (b : S2000000.Idx) : res_main_v202 V0 b = RefLane.fraction (isZero (res_main_v7 V0 b)) (isZero (res_main_v5 V0 b))
    (res_main_v142 V0 b) (res_main_v141 V0 b) (res_main_v7 V0 b) (res_main_v5 V0 b) := rfl
theorem v266_eq (b : S2000000.Idx) : res_main_v266 V0 b = RefLane.fraction (isZero (res_main_v1 V0 b)) (isZero (res_main_v3 V0 b))
    (res_main_v209 V0 b) (res_main_v210 V0 b) (res_main_v1 V0 b) (res_main_v3 V0 b) := rfl
theorem v270_eq (b : S2000000.Idx) : res_main_v270 V0 b = RefLane.fraction (isZero (res_main_v3 V0 b)) (isZero (res_main_v1 V0 b))
    (res_main_v210 V0 b) (res_main_v209 V0 b) (res_main_v3 V0 b) (res_main_v1 V0 b) := rfl

/-! ## The result -/

/-- The reference's result, as an array. -/
def result : S2000000.Idx → Elt Ideal .f32 :=
  addf (addf (select (cmpf .oeq (res_main_v9 V0) (broadcastInDim S2000000 ![] bcast_S_S2000000 (constant S_ .f32 0x00000000#32))) (broadcastInDim S2000000 ![] bcast_S_S2000000 (id (constant S_ .f32 0x00000000#32))) (mulf (res_main_v9 V0) (addf (Host.log (Host.divf (Host.divf (broadcastInDim S2000000 ![] bcast_S_S2000000 (constant S_ .f32 0x3F800000#32)) (addf (broadcastInDim S2000000 ![] bcast_S_S2000000 (constant S_ .f32 0x3F800000#32)) (mulf (mulf (mulf (mulf (res_main_v57 V0) (res_main_v126 V0)) (res_main_v18 V0)) (res_main_v7 V0)) (res_main_v202 V0)))) (res_main_v266 V0))) (Host.divf (subf (res_main_v266 V0) (broadcastInDim S2000000 ![] bcast_S_S2000000 (constant S_ .f32 0x3F800000#32))) (broadcastInDim S2000000 ![] bcast_S_S2000000 (constant S_ .f32 0x40000000#32)))))) (select (cmpf .oeq (res_main_v11 V0) (broadcastInDim S2000000 ![] bcast_S_S2000000 (constant S_ .f32 0x00000000#32))) (broadcastInDim S2000000 ![] bcast_S_S2000000 (id (constant S_ .f32 0x00000000#32))) (mulf (res_main_v11 V0) (addf (Host.log (Host.divf (Host.divf (broadcastInDim S2000000 ![] bcast_S_S2000000 (constant S_ .f32 0x3F800000#32)) (addf (broadcastInDim S2000000 ![] bcast_S_S2000000 (constant S_ .f32 0x3F800000#32)) (mulf (mulf (mulf (mulf (res_main_v103 V0) (res_main_v80 V0)) (res_main_v18 V0)) (res_main_v5 V0)) (res_main_v198 V0)))) (res_main_v270 V0))) (Host.divf (subf (res_main_v270 V0) (broadcastInDim S2000000 ![] bcast_S_S2000000 (constant S_ .f32 0x3F800000#32))) (broadcastInDim S2000000 ![] bcast_S_S2000000 (constant S_ .f32 0x40000000#32))))))) (mulf (V0 (Proc.devRef .tc main_arg5)) (addf (Host.divf (mulf (res_main_v5 V0) (subf (broadcastInDim S2000000 ![] bcast_S_S2000000 (constant S_ .f32 0x3F800000#32)) (res_main_v198 V0))) (broadcastInDim S2000000 ![] bcast_S_S2000000 (constant S_ .f32 0x40000000#32))) (Host.divf (mulf (res_main_v7 V0) (subf (broadcastInDim S2000000 ![] bcast_S_S2000000 (constant S_ .f32 0x3F800000#32)) (res_main_v202 V0))) (broadcastInDim S2000000 ![] bcast_S_S2000000 (constant S_ .f32 0x40000000#32)))))

theorem result_apply (b : S2000000.Idx) (s₁ s₂ : Fin 64) (h₁ : (firsts V0 b).toInt = (s₁.val : ℤ))
    (h₂ : (seconds V0 b).toInt = (s₂.val : ℤ)) :
    result V0 b = RefLane.lane (tableAt V0 s₁ 0) (tableAt V0 s₁ 1) (tableAt V0 s₂ 0) (tableAt V0 s₂ 1) (invTs V0 b) (ratios V0 b)
      (amounts V0 (ix2 (b 0) 0)) (amounts V0 (ix2 (b 0) 1)) (densities V0 (ix2 (b 0) 0)) (densities V0 (ix2 (b 0) 1))
      (densities V0 (ix2 (b 0) 2)) (densities V0 (ix2 (b 0) 3)) := by
  have e : result V0 b = FloatOps.addf (F := Ideal)
      (FloatOps.addf
        (RefLane.siteTerm (res_main_v9 V0 b) (res_main_v266 V0 b)
          (RefLane.uptake (strength (res_main_v57 V0 b) (res_main_v126 V0 b) (res_main_v18 V0 b)) (res_main_v7 V0 b) (res_main_v202 V0 b)))
        (RefLane.siteTerm (res_main_v11 V0 b) (res_main_v270 V0 b)
          (RefLane.uptake (strength (res_main_v103 V0 b) (res_main_v80 V0 b) (res_main_v18 V0 b)) (res_main_v5 V0 b) (res_main_v198 V0 b))))
      (RefLane.bondTerm (ratios V0 b) (res_main_v5 V0 b) (res_main_v7 V0 b) (res_main_v198 V0 b) (res_main_v202 V0 b)) := rfl
  rw [e, v266_eq, v270_eq, v202_eq, v198_eq, v209_eq, v210_eq, v141_eq, v142_eq, v57_apply V0 b s₁ h₁, v80_apply V0 b s₁ h₁,
    v103_apply V0 b s₂ h₂, v126_apply V0 b s₂ h₂, v1_apply, v3_apply, v5_apply, v7_apply, v9_apply, v11_apply, v18_apply]
  rfl

end Cert.ReferenceIdeal.Proof

end
-- ==== Proof.RefFrame.lean ====
/-
  The reference's run: it ends with its result at `result`, its arguments as they were and no counter raised (it has
  none).
-/
module

public import proofs.«01_k».proof.Defs
public import proofs.«01_k».proof.Proof.RefValue
public import Idealize.ShloMosaic.Lib.Quiescent

@[expose] public section

noncomputable section

namespace Cert.ReferenceIdeal.Proof

open Idealize.ShloMosaic Idealize.SL.Sem

theorem frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

end Cert.ReferenceIdeal.Proof

end
-- ==== Proof.Host.lean ====
/-
  What the host's operations before the launch leave in the five arrays they prepare: the two energy tables and the mask
  laid out in lanes and padded to 128, the amounts and the densities laid out plane by plane.
-/
module

public import proofs.«01_k».proof.Proof.Gen.KernelIdeal.Frame
public import Idealize.ShloMosaic.Lib.ValueLayout
public import Idealize.ShloMosaic.Lib.KernelVsHost
public import Idealize.ShloMosaic.Lib.Claim

@[expose] public section

noncomputable section

namespace Cert.KernelIdeal.Proof

open Cert.KernelIdeal Cert.KernelIdeal.Gen

open Idealize.ShloMosaic Idealize.ShloMosaic.TcCoe Idealize.ShloMosaic.ValueIdx

variable {F : FTy → Type} [FloatOps F] (m : (ℓ : Loc nD τ sig) → Buf (Elt F) ℓ)

/-- The arguments the values are stated over, each at its literal shape. -/
def energies (c : Dev nD) : S64x2.Idx → Elt F .f32 := m ((c : Thread nD τ).loc main_arg0)
def energiesFixed (c : Dev nD) : S64x2.Idx → Elt F .f32 := m ((c : Thread nD τ).loc main_arg1)
def firsts (c : Dev nD) : S2000000.Idx → Elt F .i32 := m ((c : Thread nD τ).loc main_arg2)
def seconds (c : Dev nD) : S2000000.Idx → Elt F .i32 := m ((c : Thread nD τ).loc main_arg3)
def invTs (c : Dev nD) : S2000000.Idx → Elt F .f32 := m ((c : Thread nD τ).loc main_arg4)
def ratios (c : Dev nD) : S2000000.Idx → Elt F .f32 := m ((c : Thread nD τ).loc main_arg5)
def amounts (c : Dev nD) : S2000000x2.Idx → Elt F .f32 := m ((c : Thread nD τ).loc main_arg7)
def densities (c : Dev nD) : S2000000x4.Idx → Elt F .f32 := m ((c : Thread nD τ).loc main_arg8)
def masks (c : Dev nD) : S64.Idx → Elt F .i1 := m ((c : Thread nD τ).loc main_arg9)

theorem V_v1 (c : Dev nD) : V m c main_v1 = pad S2x128 ![0, 0] ![0, 64] ![0, 0]
    (transpose S2x64 [1, 0] (energies m c) transposes_S64x2_S2x64_1_0)
    (sitofp (F := F) .f32 (constantI S_ 32 0#32)) pads_S2x64_S2x128_000_0640 h_S_ := by
  unfold_abbrev_sides
  after_results
  rfl

theorem V_v3 (c : Dev nD) : V m c main_v3 = pad S2x128 ![0, 0] ![0, 64] ![0, 0]
    (transpose S2x64 [1, 0] (energiesFixed m c) transposes_S64x2_S2x64_1_0)
    (sitofp (F := F) .f32 (constantI S_ 32 0#32)) pads_S2x64_S2x128_000_0640 h_S_ := by
  unfold_abbrev_sides
  after_results
  rfl

theorem V_v6 (c : Dev nD) : V m c main_v6 = pad S1x128 ![0, 0] ![0, 64] ![0, 0]
    (extui 32 (broadcastInDim S1x64 ![1] bcast_S64_S1x64_1 (masks m c)) natLt_1_32)
    (constantI S_ 32 0#32) pads_S1x64_S1x128_000_0640 h_S_ := by
  unfold_abbrev_sides
  after_results
  rfl

theorem V_v8 (c : Dev nD) : V m c main_v8 = shapeCast S2x15625x128
    (transpose S2x2000000 [1, 0] (amounts m c) transposes_S2000000x2_S2x2000000_1_0) shapeCasts_S2x2000000_S2x15625x128 := by
  unfold_abbrev_sides
  after_results
  rfl

theorem V_v10 (c : Dev nD) : V m c main_v10 = shapeCast S4x15625x128
    (transpose S4x2000000 [1, 0] (densities m c) transposes_S2000000x4_S4x2000000_1_0) shapeCasts_S4x2000000_S4x15625x128 := by
  unfold_abbrev_sides
  after_results
  rfl

/-! ## At an index -/

theorem V_v1_apply (c : Dev nD) (a : Fin 2) (s : Fin 128) (k : Fin 64) (h : s.val = k.val) :
    V m c main_v1 (ix2 a s) = energies m c (ix2 k a) := by
  rw [V_v1]
  refine (pad_apply_of_inside _ _ _ _ _ _ _ _ (ix2 a k) (fun x => match x with
    | ⟨0, _⟩ => by show a.val = 0 + a.val * (0 + 1); omega
    | ⟨1, _⟩ => by show s.val = 0 + k.val * (0 + 1); omega)).trans ?_
  exact transpose_ix2_apply _ _ _ _

theorem V_v3_apply (c : Dev nD) (a : Fin 2) (s : Fin 128) (k : Fin 64) (h : s.val = k.val) :
    V m c main_v3 (ix2 a s) = energiesFixed m c (ix2 k a) := by
  rw [V_v3]
  refine (pad_apply_of_inside _ _ _ _ _ _ _ _ (ix2 a k) (fun x => match x with
    | ⟨0, _⟩ => by show a.val = 0 + a.val * (0 + 1); omega
    | ⟨1, _⟩ => by show s.val = 0 + k.val * (0 + 1); omega)).trans ?_
  exact transpose_ix2_apply _ _ _ _

theorem V_v6_apply (c : Dev nD) (s : Fin 128) (k : Fin 64) (h : s.val = k.val) :
    V m c main_v6 (ix2 0 s) = (masks m c (ix1 k) : BitVec 1).setWidth 32 := by
  rw [V_v6]
  refine (pad_apply_of_inside _ _ _ _ _ _ _ _ (ix2 0 k) (fun x => match x with
    | ⟨0, _⟩ => rfl
    | ⟨1, _⟩ => by show s.val = 0 + k.val * (0 + 1); omega)).trans ?_
  refine congrArg (BitVec.setWidth 32) ?_
  exact broadcastInDim_apply _ _ _ _ _ (fun x => match x with | ⟨0, _⟩ => rfl)

theorem V_v8_apply (c : Dev nD) (n : Fin 2) (a : Fin 15625) (b : Fin 128) (i : Fin 2000000) (h : i.val = a.val * 128 + b.val) :
    V m c main_v8 (ix3 n a b) = amounts m c (ix2 i n) := by
  rw [V_v8]
  refine (shapeCast_apply _ _ _ (ix2 n i) ?_).trans (transpose_ix2_apply _ _ _ _)
  rw [Shape.rowMajor_val_two, Shape.rowMajor_val_three]
  show n.val * 2000000 + i.val = (n.val * 15625 + a.val) * 128 + b.val
  omega

theorem V_v10_apply (c : Dev nD) (n : Fin 4) (a : Fin 15625) (b : Fin 128) (i : Fin 2000000) (h : i.val = a.val * 128 + b.val) :
    V m c main_v10 (ix3 n a b) = densities m c (ix2 i n) := by
  rw [V_v10]
  refine (shapeCast_apply _ _ _ (ix2 n i) ?_).trans (transpose_ix2_apply _ _ _ _)
  rw [Shape.rowMajor_val_two, Shape.rowMajor_val_three]
  show n.val * 2000000 + i.val = (n.val * 15625 + a.val) * 128 + b.val
  omega

end Cert.KernelIdeal.Proof

end
-- ==== Proof.Exact.lean ====
/-
  The float operations on exact finite numbers: each is the real operation. `fin x` is the real number `x` as an exact
  float value.
-/
module

public import proofs.«01_k».proof.Proof.RefLane
public import Idealize.ShloMosaic.PureOps.Ideal.Laws
public import Idealize.ShloMosaic.Lib.IdealHost

@[expose] public section

noncomputable section

namespace Cert.Exact

open Idealize.ShloMosaic

/-- A real number as an exact value. -/
def fin (x : ℝ) : Ideal .f32 := (x : EReal)

theorem addf_fin (x y : ℝ) : FloatOps.addf (fin x) (fin y) = fin (x + y) := (EReal.coe_add x y).symm
theorem subf_fin (x y : ℝ) : FloatOps.subf (fin x) (fin y) = fin (x - y) := (EReal.coe_sub x y).symm
theorem mulf_fin (x y : ℝ) : FloatOps.mulf (fin x) (fin y) = fin (x * y) := (EReal.coe_mul x y).symm

theorem divf_fin (x : ℝ) {y : ℝ} (h : y ≠ 0) : FloatOps.divf (fin x) (fin y) = fin (x / y) := by
  show Ideal.div (x : EReal) (y : EReal) = ((x / y : ℝ) : EReal)
  unfold Ideal.div
  rw [if_neg (by exact_mod_cast h), ← EReal.coe_inv, ← EReal.coe_mul, div_eq_mul_inv]

theorem exp_fin (x : ℝ) : FloatOps.exp (fin x) = fin (Real.exp x) := rfl

theorem sqrt_fin {x : ℝ} (h : 0 ≤ x) : FloatOps.sqrt (fin x) = fin (Real.sqrt x) := by
  show Ideal.sqrt (x : EReal) = _
  show (if x < 0 then (⊥ : EReal) else (Real.sqrt x : EReal)) = _
  rw [if_neg (not_lt.mpr h)]
  rfl

theorem log_fin {x : ℝ} (h : 0 < x) : FloatOps.log (fin x) = fin (Real.log x) := by
  show (if x ≤ 0 then (⊥ : EReal) else (Real.log x : EReal)) = _
  rw [if_neg (not_le.mpr h)]
  rfl

theorem log1p_fin {x : ℝ} (h : 0 < 1 + x) : FloatOps.log1p (fin x) = fin (Real.log (1 + x)) := by
  refine Eq.trans ?_ (log_fin h)
  show Ideal.log (1 + (x : EReal)) = Ideal.log ((1 + x : ℝ) : EReal)
  rw [EReal.coe_add]
  rfl

theorem negf_fin (x : ℝ) : FloatOps.negf (fin x) = fin (-x) := (EReal.coe_neg x).symm

theorem maximumf_fin (x y : ℝ) : FloatOps.maximumf (fin x) (fin y) = fin (max x y) :=
  (EReal.coe_strictMono.monotone.map_max).symm

theorem absf_fin (x : ℝ) : FloatOps.absf (fin x) = fin |x| := by
  show max (x : EReal) (-(x : EReal)) = ((|x| : ℝ) : EReal)
  rw [← EReal.coe_neg, abs_eq_max_neg]
  exact (EReal.coe_strictMono.monotone.map_max).symm

theorem zero_fin : (Lane.zero : Ideal .f32) = fin 0 := Ideal.ofBits_zero_f32
theorem one_fin : (Lane.one : Ideal .f32) = fin 1 := Ideal.ofBits_one_f32
theorem two_fin : (Lane.two : Ideal .f32) = fin 2 := by
  show Ideal.ofBits .f32 0x40000000#32 = ((2 : ℝ) : EReal)
  simp [Ideal.ofBits, Ideal.ieee, -EReal.coe_mul]
  norm_num
theorem half_fin : (Lane.half : Ideal .f32) = fin (1 / 2) := by
  show Ideal.ofBits .f32 0x3F000000#32 = ((1 / 2 : ℝ) : EReal)
  simp [Ideal.ofBits, Ideal.ieee, -EReal.coe_mul]
  norm_num

/-- The temperature factor's two constants are positive numbers. -/
theorem kappa_fin : ∃ k : ℝ, 0 < k ∧ (Scalar.ofBits .f32 0x3D0B4396#32 : Ideal .f32) = fin k := by
  refine ⟨9126806 * (2 : ℝ) ^ (-28 : ℤ), by positivity, ?_⟩
  show Ideal.ofBits .f32 0x3D0B4396#32 = ((9126806 * (2 : ℝ) ^ (-28 : ℤ) : ℝ) : EReal)
  simp [Ideal.ofBits, Ideal.ieee, -EReal.coe_mul]
theorem scale_fin : ∃ k : ℝ, 0 < k ∧ (Scalar.ofBits .f32 0x44F50000#32 : Ideal .f32) = fin k := by
  refine ⟨16056320 * (2 : ℝ) ^ (-13 : ℤ), by positivity, ?_⟩
  show Ideal.ofBits .f32 0x44F50000#32 = ((16056320 * (2 : ℝ) ^ (-13 : ℤ) : ℝ) : EReal)
  simp [Ideal.ofBits, Ideal.ieee, -EReal.coe_mul]

/-- Choosing by whether a finite value is zero. -/
theorem select_isZero {α : Type} (x : ℝ) (a b : α) : Scalar.select (Lane.isZero (fin x)) a b = if x = 0 then a else b := by
  have h : Lane.isZero (fin x) = BitVec.ofBool (decide (x = 0)) := by
    unfold Lane.isZero
    rw [zero_fin]
    show BitVec.ofBool (decide ((x : EReal) = ((0 : ℝ) : EReal))) = _
    congr 1
    exact decide_eq_decide.mpr EReal.coe_eq_coe_iff
  rw [h]
  by_cases hx : x = 0
  · rw [decide_eq_true hx, if_pos hx]; rfl
  · rw [decide_eq_false hx, if_neg hx]; rfl

end Cert.Exact

end
-- ==== Proof.Physical.lean ====
/-
  What the precondition says of the arguments' elements: the energies are finite, the two indices name one of the 64
  species, the inverse temperature is positive and finite, the densities are finite and not negative.
-/
module

public import proofs.«01_k».proof.Defs
public import proofs.«01_k».proof.Proof.Host
public import proofs.«01_k».proof.Proof.Exact

@[expose] public section

noncomputable section

namespace Cert.Physical

open Idealize.ShloMosaic Idealize.ShloMosaic.TcCoe
open Cert.Exact (fin)

/-- The predicate's shape facts. -/
theorem facts : Cert.Pre_physical.Facts where
  bcast_S_S64x2 := by decide
  bcast_S_S2000000 := by decide
  bcast_S_S2000000x4 := by decide

theorem and_split : ∀ a b : BitVec 1, IntOp.andi a b = 1#1 → a = 1#1 ∧ b = 1#1 := by decide

theorem of_mask {p : Bool} (h : BitVec.ofBool p = 1#1) : p = true := by
  cases p
  · exact absurd h (by decide)
  · rfl

/-- The pattern the predicate compares with is plus infinity. -/
theorem inf_eq : Ideal.ofBits .f32 0x7F800000#32 = (⊤ : EReal) := by
  simp [Ideal.ofBits, Ideal.ieee]

theorem exists_fin (x : EReal) (h : x < ⊤) (h' : ⊥ < x) : ∃ r : ℝ, x = (r : EReal) :=
  ⟨x.toReal, (EReal.coe_toReal h.ne h'.ne').symm⟩

theorem finite (x : Ideal .f32)
    (h : FloatOps.cmpf .olt (FloatOps.absf x) (Scalar.ofBits .f32 0x7F800000#32 : Ideal .f32) = 1#1) : ∃ r : ℝ, x = fin r := by
  have h : max (x : EReal) (-x) < Ideal.ofBits .f32 0x7F800000#32 := of_decide_eq_true (of_mask h)
  rw [inf_eq, max_lt_iff] at h
  refine exists_fin x h.1 (bot_lt_iff_ne_bot.mpr fun e => ?_)
  rw [e] at h
  exact absurd h.2 (by simp)

theorem positive (x : Ideal .f32) (h : IntOp.andi (FloatOps.cmpf .ogt x (Scalar.ofBits .f32 0x00000000#32 : Ideal .f32))
    (FloatOps.cmpf .olt x (Scalar.ofBits .f32 0x7F800000#32 : Ideal .f32)) = 1#1) : ∃ r : ℝ, 0 < r ∧ x = fin r := by
  obtain ⟨h₁, h₂⟩ := and_split _ _ h
  have h₁ : Ideal.ofBits .f32 0x00000000#32 < (x : EReal) := of_decide_eq_true (of_mask h₁)
  have h₂ : (x : EReal) < Ideal.ofBits .f32 0x7F800000#32 := of_decide_eq_true (of_mask h₂)
  rw [inf_eq] at h₂
  rw [Ideal.ofBits_zero_f32] at h₁
  obtain ⟨r, hr⟩ := exists_fin x h₂ (lt_trans EReal.bot_lt_zero h₁)
  refine ⟨r, ?_, hr⟩
  rw [hr] at h₁
  exact EReal.coe_pos.mp h₁

theorem nonneg (x : Ideal .f32) (h : IntOp.andi (FloatOps.cmpf .oge x (Scalar.ofBits .f32 0x00000000#32 : Ideal .f32))
    (FloatOps.cmpf .olt x (Scalar.ofBits .f32 0x7F800000#32 : Ideal .f32)) = 1#1) : ∃ r : ℝ, 0 ≤ r ∧ x = fin r := by
  obtain ⟨h₁, h₂⟩ := and_split _ _ h
  have h₁ : Ideal.ofBits .f32 0x00000000#32 ≤ (x : EReal) := of_decide_eq_true (of_mask h₁)
  have h₂ : (x : EReal) < Ideal.ofBits .f32 0x7F800000#32 := of_decide_eq_true (of_mask h₂)
  rw [inf_eq] at h₂
  rw [Ideal.ofBits_zero_f32] at h₁
  obtain ⟨r, hr⟩ := exists_fin x h₂ (lt_of_lt_of_le EReal.bot_lt_zero h₁)
  refine ⟨r, ?_, hr⟩
  rw [hr] at h₁
  exact EReal.coe_nonneg.mp h₁

theorem species (i : BitVec 32) (h : IntOp.andi (IntOp.cmpi .sge i 0#32) (IntOp.cmpi .slt i 64#32) = 1#1) :
    ∃ s : Fin 64, i.toInt = (s.val : ℤ) := by
  obtain ⟨h₁, h₂⟩ := and_split _ _ h
  have h₁ : BitVec.sle 0#32 i = true := of_mask h₁
  have h₂ : BitVec.slt i 64#32 = true := of_mask h₂
  rw [BitVec.sle_eq_decide] at h₁
  rw [BitVec.slt_eq_decide] at h₂
  have h₁ : (0 : ℤ) ≤ i.toInt := of_decide_eq_true h₁
  have h₂ : i.toInt < (64 : ℤ) := of_decide_eq_true h₂
  exact ⟨⟨i.toInt.toNat, by omega⟩, (Int.toNat_of_nonneg h₁).symm⟩

/-! ## The arguments -/

open Cert.KernelIdeal.Proof

variable (m : (ℓ : Loc Cert.KernelIdeal.nD Cert.KernelIdeal.τ Cert.KernelIdeal.sig) → Buf (Elt Ideal) ℓ)
  (h : Cert.Pre_KernelIdeal_physical (hPre_physical := facts) m) (c : Dev Cert.KernelIdeal.nD)

include h

theorem energies_fin (k : Cert.KernelIdeal.S64x2.Idx) : ∃ r : ℝ, energies m c k = fin r :=
  finite (energies m c k) (congrFun (h c).1 k)
theorem energiesFixed_fin (k : Cert.KernelIdeal.S64x2.Idx) : ∃ r : ℝ, energiesFixed m c k = fin r :=
  finite (energiesFixed m c k) (congrFun (h c).2.1 k)
theorem firsts_species (b : Cert.KernelIdeal.S2000000.Idx) : ∃ s : Fin 64, (firsts m c b).toInt = (s.val : ℤ) :=
  species (firsts m c b) (congrFun (h c).2.2.1 b)
theorem seconds_species (b : Cert.KernelIdeal.S2000000.Idx) : ∃ s : Fin 64, (seconds m c b).toInt = (s.val : ℤ) :=
  species (seconds m c b) (congrFun (h c).2.2.2.1 b)
theorem invTs_pos (b : Cert.KernelIdeal.S2000000.Idx) : ∃ t : ℝ, 0 < t ∧ invTs m c b = fin t :=
  positive (invTs m c b) (congrFun (h c).2.2.2.2.1 b)
theorem densities_nonneg (k : Cert.KernelIdeal.S2000000x4.Idx) : ∃ ρ : ℝ, 0 ≤ ρ ∧ densities m c k = fin ρ :=
  nonneg (densities m c k) (congrFun (h c).2.2.2.2.2 k)

end Cert.Physical

end
-- ==== Proof.Array.lean ====
/-
  What the kernel's result array holds after the run, element by element: `Lane.lane` of the padded tables' entries and
  of the element's own scalars. Element `b` is written at point `b / 262144`.
-/
module

public import proofs.«01_k».proof.Proof.Run
public import proofs.«01_k».proof.Proof.Host

@[expose] public section

noncomputable section

namespace Cert.KernelIdeal.Proof

open Cert.KernelIdeal Cert.KernelIdeal.Gen

open Idealize.ShloMosaic Idealize.ShloMosaic.TcCoe Idealize.ShloMosaic.ValueIdx
open Idealize.ShloMosaic.Pipeline (Dat Cfg Window)

variable {F : FTy → Type} [FloatOps F] (m : (ℓ : Loc nD τ sig) → Buf (Elt F) ℓ)

/-- The padded table at species row `a` and lane `s`. -/
def padded (c : Dev nD) (a : Fin 2) (s : Fin 128) : F .f32 :=
  Lane.entry (V m c main_v6 (ix2 0 s)) (V m c main_v1 (ix2 a s)) (V m c main_v3 (ix2 a s))

/-- The result array at element `b`. -/
def result (c : Dev nD) (b : S2000000.Idx) : F .f32 :=
  Lane.lane (padded m c 0 (Lane.slot (firsts m c b))) (padded m c 1 (Lane.slot (firsts m c b)))
    (padded m c 0 (Lane.slot (seconds m c b))) (padded m c 1 (Lane.slot (seconds m c b))) (invTs m c b) (ratios m c b)
    (amounts m c (ix2 (b 0) 0)) (amounts m c (ix2 (b 0) 1))
    (densities m c (ix2 (b 0) 0)) (densities m c (ix2 (b 0) 1)) (densities m c (ix2 (b 0) 2)) (densities m c (ix2 (b 0) 3))

/-- A filled buffer at a place the transfer moved is the moved block there. -/
theorem fill_moved (w : Window sig grid0) {α : Type} (t : Fin cfg0.N) (d : w.block.Idx → α)
    (g : (w.xblock (grid0.coords t)).Idx → α) (k : w.block.Idx) (hx : ∀ a, (k a).val < w.xsize (grid0.coords t) a) :
    w.fill (grid0.coords t) d g k = g (fun a => ⟨(k a).val, hx a⟩) :=
  congrFun (w.cut_fill (grid0.coords t) d g) (fun a => ⟨(k a).val, hx a⟩)

/-- The three tables' windows hold their whole arrays at every point. -/
theorem iblk0_apply (c : Dev nD) (t : Fin cfg0.N) (k : S2x128.Idx) : iblk m c 0 t k = V m c main_v1 k :=
  congrArg (V m c main_v1) (funext fun a => Fin.ext (match a with
    | ⟨0, _⟩ => (Window.rect_emb_val win0_0 t k 0).trans (by show 0 * 2 + (k 0).val = (k 0).val; omega)
    | ⟨1, _⟩ => (Window.rect_emb_val win0_0 t k 1).trans (by show 0 * 128 + (k 1).val = (k 1).val; omega)))
theorem iblk1_apply (c : Dev nD) (t : Fin cfg0.N) (k : S2x128.Idx) : iblk m c 1 t k = V m c main_v3 k :=
  congrArg (V m c main_v3) (funext fun a => Fin.ext (match a with
    | ⟨0, _⟩ => (Window.rect_emb_val win0_1 t k 0).trans (by show 0 * 2 + (k 0).val = (k 0).val; omega)
    | ⟨1, _⟩ => (Window.rect_emb_val win0_1 t k 1).trans (by show 0 * 128 + (k 1).val = (k 1).val; omega)))
theorem iblk2_apply (c : Dev nD) (t : Fin cfg0.N) (k : S1x128.Idx) : iblk m c 2 t k = V m c main_v6 k :=
  congrArg (V m c main_v6) (funext fun a => Fin.ext (match a with
    | ⟨0, _⟩ => (Window.rect_emb_val win0_2 t k 0).trans (by show 0 * 1 + (k 0).val = (k 0).val; omega)
    | ⟨1, _⟩ => (Window.rect_emb_val win0_2 t k 1).trans (by show 0 * 128 + (k 1).val = (k 1).val; omega)))

/-- The block's place `k` at point `t` is the array's element `t · 262144 + k`. -/
theorem buf3_apply (c : Dev nD) (t : Fin cfg0.N) (k : S262144.Idx) (hk : (k 0).val < lanesIn t) (b : S2000000.Idx)
    (hb : (b 0).val = t.val * 262144 + (k 0).val) : buf3 m c t k = firsts m c b := by
  refine (fill_moved win0_3 t _ _ k (fun a => match a with | ⟨0, _⟩ => (xsize_3 t).symm ▸ hk)).trans ?_
  refine Eq.trans ?_ (congrFun (V_main_arg2 m c) b)
  refine congrArg (V m c main_arg2) (funext fun a => Fin.ext (match a with
    | ⟨0, _⟩ => (Window.rect_emb_val win0_3 t _ 0).trans ?_))
  show cc0_transform_3 (grid0.coords t) 0 * 262144 + (k 0).val = (b 0).val
  rw [index_3, hb]
theorem buf4_apply (c : Dev nD) (t : Fin cfg0.N) (k : S262144.Idx) (hk : (k 0).val < lanesIn t) (b : S2000000.Idx)
    (hb : (b 0).val = t.val * 262144 + (k 0).val) : buf4 m c t k = seconds m c b := by
  refine (fill_moved win0_4 t _ _ k (fun a => match a with | ⟨0, _⟩ => (xsize_4 t).symm ▸ hk)).trans ?_
  refine Eq.trans ?_ (congrFun (V_main_arg3 m c) b)
  refine congrArg (V m c main_arg3) (funext fun a => Fin.ext (match a with
    | ⟨0, _⟩ => (Window.rect_emb_val win0_4 t _ 0).trans ?_))
  show cc0_transform_3 (grid0.coords t) 0 * 262144 + (k 0).val = (b 0).val
  rw [index_3, hb]
theorem buf5_apply (c : Dev nD) (t : Fin cfg0.N) (k : S262144.Idx) (hk : (k 0).val < lanesIn t) (b : S2000000.Idx)
    (hb : (b 0).val = t.val * 262144 + (k 0).val) : buf5 m c t k = invTs m c b := by
  refine (fill_moved win0_5 t _ _ k (fun a => match a with | ⟨0, _⟩ => (xsize_5 t).symm ▸ hk)).trans ?_
  refine Eq.trans ?_ (congrFun (V_main_arg4 m c) b)
  refine congrArg (V m c main_arg4) (funext fun a => Fin.ext (match a with
    | ⟨0, _⟩ => (Window.rect_emb_val win0_5 t _ 0).trans ?_))
  show cc0_transform_3 (grid0.coords t) 0 * 262144 + (k 0).val = (b 0).val
  rw [index_3, hb]
theorem buf6_apply (c : Dev nD) (t : Fin cfg0.N) (k : S262144.Idx) (hk : (k 0).val < lanesIn t) (b : S2000000.Idx)
    (hb : (b 0).val = t.val * 262144 + (k 0).val) : buf6 m c t k = ratios m c b := by
  refine (fill_moved win0_6 t _ _ k (fun a => match a with | ⟨0, _⟩ => (xsize_6 t).symm ▸ hk)).trans ?_
  refine Eq.trans ?_ (congrFun (V_main_arg5 m c) b)
  refine congrArg (V m c main_arg5) (funext fun a => Fin.ext (match a with
    | ⟨0, _⟩ => (Window.rect_emb_val win0_6 t _ 0).trans ?_))
  show cc0_transform_3 (grid0.coords t) 0 * 262144 + (k 0).val = (b 0).val
  rw [index_3, hb]

/-- The array's row a block's lane lies in. -/
theorem arrayRow_lt (t : Fin cfg0.N) (k : S262144.Idx) (b : S2000000.Idx) (hb : (b 0).val = t.val * 262144 + (k 0).val) :
    t.val * 2048 + (laneRow k).val < 15625 := by
  have : (b 0).val < 2000000 := (b 0).isLt
  show t.val * 2048 + (k 0).val / 128 < 15625
  omega

theorem buf7_apply (c : Dev nD) (t : Fin cfg0.N) (k : S262144.Idx) (hk : (k 0).val < lanesIn t) (b : S2000000.Idx)
    (hb : (b 0).val = t.val * 262144 + (k 0).val) (n : Fin 2) :
    buf7 m c t (ix3 n (laneRow k) (laneCol k)) = amounts m c (ix2 (b 0) n) := by
  refine (fill_moved win0_7 t _ _ (ix3 n (laneRow k) (laneCol k)) (fun a => by
    rw [xsize_7 t]; exact match a with | ⟨0, _⟩ => n.isLt | ⟨1, _⟩ => row_lt t k hk | ⟨2, _⟩ => (laneCol k).isLt)).trans ?_
  refine Eq.trans ?_ (V_v8_apply m c n ⟨t.val * 2048 + (laneRow k).val, arrayRow_lt t k b hb⟩ (laneCol k) (b 0) (by
    rw [hb]
    show _ = (t.val * 2048 + (k 0).val / 128) * 128 + (k 0).val % 128
    omega))
  refine congrArg (V m c main_v8) (funext fun a => Fin.ext (match a with
    | ⟨0, _⟩ => (Window.rect_emb_val win0_7 t _ 0).trans (by show 0 * 2 + n.val = n.val; omega)
    | ⟨1, _⟩ => (Window.rect_emb_val win0_7 t _ 1).trans ?_
    | ⟨2, _⟩ => (Window.rect_emb_val win0_7 t _ 2).trans (by show 0 * 128 + (laneCol k).val = (laneCol k).val; omega)))
  show cc0_transform_7 (grid0.coords t) 1 * 2048 + (laneRow k).val = _
  rw [index_7]
theorem buf8_apply (c : Dev nD) (t : Fin cfg0.N) (k : S262144.Idx) (hk : (k 0).val < lanesIn t) (b : S2000000.Idx)
    (hb : (b 0).val = t.val * 262144 + (k 0).val) (n : Fin 4) :
    buf8 m c t (ix3 n (laneRow k) (laneCol k)) = densities m c (ix2 (b 0) n) := by
  refine (fill_moved win0_8 t _ _ (ix3 n (laneRow k) (laneCol k)) (fun a => by
    rw [xsize_8 t]; exact match a with | ⟨0, _⟩ => n.isLt | ⟨1, _⟩ => row_lt t k hk | ⟨2, _⟩ => (laneCol k).isLt)).trans ?_
  refine Eq.trans ?_ (V_v10_apply m c n ⟨t.val * 2048 + (laneRow k).val, arrayRow_lt t k b hb⟩ (laneCol k) (b 0) (by
    rw [hb]
    show _ = (t.val * 2048 + (k 0).val / 128) * 128 + (k 0).val % 128
    omega))
  refine congrArg (V m c main_v10) (funext fun a => Fin.ext (match a with
    | ⟨0, _⟩ => (Window.rect_emb_val win0_8 t _ 0).trans (by show 0 * 4 + n.val = n.val; omega)
    | ⟨1, _⟩ => (Window.rect_emb_val win0_8 t _ 1).trans ?_
    | ⟨2, _⟩ => (Window.rect_emb_val win0_8 t _ 2).trans (by show 0 * 128 + (laneCol k).val = (laneCol k).val; omega)))
  show cc0_transform_7 (grid0.coords t) 1 * 2048 + (laneRow k).val = _
  rw [index_7]

/-- What the body stores at a block's place inside the array is the result at the element the place stands for. -/
theorem buf9_apply (c : Dev nD) (t : Fin cfg0.N) (k : S262144.Idx) (hk : (k 0).val < lanesIn t) (b : S2000000.Idx)
    (hb : (b 0).val = t.val * 262144 + (k 0).val) : buf9 m c t k = result m c b := by
  have htab : ∀ a s, table (iblk m c 0 t) (iblk m c 1 t) (iblk m c 2 t) a s = padded m c a s := fun a s => by
    unfold table padded
    rw [← iblk0_apply m c t, ← iblk1_apply m c t, ← iblk2_apply m c t]
  unfold buf9
  rw [blockOut_apply]
  unfold laneOut result
  rw [htab, htab, htab, htab, buf3_apply m c t k hk b hb, buf4_apply m c t k hk b hb, buf5_apply m c t k hk b hb,
    buf6_apply m c t k hk b hb, buf7_apply m c t k hk b hb, buf7_apply m c t k hk b hb, buf8_apply m c t k hk b hb,
    buf8_apply m c t k hk b hb, buf8_apply m c t k hk b hb, buf8_apply m c t k hk b hb]

/-- The result array after the run. -/
theorem arrAt_result (c : Dev nD) : (dats m 0 c).arrAt 9 cfg0.N = result m c := by
  refine funext fun i => (dats m 0 c).arrAt_forall_of_cover 9 (fun i v => v = result m c i) ?_ ?_ i
  · intro t _ y
    have hy : (y 0).val < lanesIn t := xsize_9 t ▸ (y 0).isLt
    refine buf9_apply m c t (win0_9.xinj (grid0.coords t) y) hy _ ?_
    refine (Window.rect_emb_val win0_9 t y 0).trans ?_
    show cc0_transform_3 (grid0.coords t) 0 * 262144 + (y 0).val = _
    rw [index_3]
  · intro (i : S2000000.Idx)
    have hi : (i 0).val < 2000000 := (i 0).isLt
    have hN : (i 0).val / 262144 < cfg0.N := lt_of_lt_of_eq (by omega : _ < 8) N_0.symm
    refine ⟨⟨(i 0).val / 262144, hN⟩, flush0_9 _, ?_⟩
    refine (Finset.ext_iff.mp (View.set_slice_whole main_v11 (win0_9.rect ⟨(i 0).val / 262144, hN⟩)) i).mpr ?_
    refine Rect.mem_set_unit.mpr fun a => ?_
    match a with
    | ⟨0, _⟩ =>
      show cc0_transform_3 _ 0 * 262144 ≤ (i 0).val ∧ (i 0).val < cc0_transform_3 _ 0 * 262144 + win0_9.xsize _ 0
      rw [index_3, xsize_9]
      show (i 0).val / 262144 * 262144 ≤ (i 0).val ∧ (i 0).val < (i 0).val / 262144 * 262144 + (if (i 0).val / 262144 < 7 then 262144 else 164992)
      split <;> omega

end Cert.KernelIdeal.Proof

end
-- ==== Proof.Equation.lean ====
/-
  The equation: on positive table entries, a positive inverse temperature and densities that are not negative, the
  kernel's lane and the reference's element are one value.

  With a and d the two scaled strengths and s = √((a - d)² + 2(a + d) + 1), the reference's free fraction is
  s/(2a) + 1/2 - d/(2a) - 1/(2a) and the kernel's is (a - 2d + 2)/(2(s + 1 + d)) + 1/2: they agree because
  (s - (d + 1))(s + (d + 1)) = a(a - 2d + 2). The fraction x and the uptake u are positive, so
  log(1/u/x) = -log(u·x). The amounts and the multiplicity stay arbitrary.
-/
module

public import proofs.«01_k».proof.Proof.Exact

@[expose] public section

noncomputable section

namespace Cert.Exact

open Idealize.ShloMosaic

/-! ## The tables -/

/-- The softplus of a real number, positive. -/
def sp (x : ℝ) : ℝ := max x 0 + Real.log (1 + Real.exp (-|x|))

theorem sp_pos (x : ℝ) : 0 < sp x :=
  add_pos_of_nonneg_of_pos (le_max_right _ _) (Real.log_pos (by linarith [Real.exp_pos (-|x|)]))

theorem softplus_lane (x : ℝ) : Lane.softplus (fin x) = fin (sp x) := by
  unfold Lane.softplus sp
  rw [zero_fin, maximumf_fin, absf_fin, subf_fin, exp_fin, log1p_fin (by positivity), addf_fin, zero_sub]

theorem softplus_ref (x : ℝ) : RefLane.softplus (fin x) = fin (sp x) := by
  unfold RefLane.softplus sp
  have h : FloatOps.cmpf (F := Ideal) .une (fin x) (fin x) = 0#1 := by
    show BitVec.ofBool (decide ((x : EReal) ≠ (x : EReal))) = 0#1
    rw [decide_eq_false (fun h => h rfl)]; rfl
  rw [zero_fin, subf_fin, sub_zero, h, maximumf_fin, absf_fin, negf_fin, exp_fin, log1p_fin (by positivity), addf_fin, addf_fin]
  rfl

/-- The two programs' table entries agree, and are positive. -/
theorem entry_eq (mask : BitVec 1) (x y : ℝ) : ∃ p : ℝ, 0 < p ∧ Lane.entry (mask.setWidth 32) (fin x) (fin y) = fin p
    ∧ RefLane.entry mask (fin x) (fin y) = fin p := by
  unfold Lane.entry RefLane.entry
  rw [softplus_lane, softplus_lane, softplus_ref, softplus_ref]
  have hm : IntOp.cmpi .ne (mask.setWidth 32) 0#32 = mask := by
    have : ∀ b : BitVec 1, IntOp.cmpi .ne (b.setWidth 32) 0#32 = b := by decide
    exact this mask
  rw [hm]
  by_cases h : mask = 1
  · exact ⟨sp x, sp_pos x, if_pos h, if_pos h⟩
  · exact ⟨sp y, sp_pos y, if_neg h, if_neg h⟩

/-! ## The temperature factor -/

theorem gain_fin {t : ℝ} (ht : 0 < t) : ∃ g : ℝ, 0 < g ∧ Lane.gain (fin t) = fin g := by
  obtain ⟨k, hk, ek⟩ := kappa_fin
  obtain ⟨l, hl, el⟩ := scale_fin
  refine ⟨k * (Real.exp (l * t) - 1), mul_pos hk (sub_pos.mpr (Real.one_lt_exp_iff.mpr (mul_pos hl ht))), ?_⟩
  unfold Lane.gain
  rw [ek, el, one_fin, mulf_fin, exp_fin, subf_fin, mulf_fin]

/-! ## The fractions -/

/-- A strength scaled by a density, over the reals. -/
def sc (S ρ : ℝ) : ℝ := if ρ = 0 then 1 else S * ρ

theorem sc_pos {S ρ : ℝ} (hS : 0 < S) (hρ : 0 ≤ ρ) : 0 < sc S ρ := by
  unfold sc
  split
  · exact one_pos
  · rename_i h
    exact mul_pos hS (lt_of_le_of_ne hρ (Ne.symm h))

theorem scaled_fin (S ρ : ℝ) : Lane.scaled (fin S) (fin ρ) = fin (sc S ρ) := by
  unfold Lane.scaled sc
  rw [select_isZero, one_fin, mulf_fin]
  split <;> rfl

/-- The square root the fractions share, over the reals. -/
def rt (a d : ℝ) : ℝ := Real.sqrt ((a - d) * (a - d) + 2 * (a + d) + 1)

theorem rt_comm (a d : ℝ) : rt a d = rt d a := by
  unfold rt
  congr 1
  ring

theorem rt_sq {a d : ℝ} (ha : 0 < a) (hd : 0 < d) : rt a d * rt a d = (a - d) * (a - d) + 2 * (a + d) + 1 :=
  Real.mul_self_sqrt (by nlinarith [mul_self_nonneg (a - d)])

theorem rt_gt {a d : ℝ} (ha : 0 < a) (hd : 0 < d) : |a - d| < rt a d := by
  unfold rt
  refine Real.lt_sqrt_of_sq_lt ?_
  rw [sq_abs]
  nlinarith

theorem root_fin {a d : ℝ} (ha : 0 < a) (hd : 0 < d) : Lane.root (fin a) (fin d) = fin (rt a d) := by
  unfold Lane.root rt
  rw [two_fin, one_fin, subf_fin, mulf_fin, addf_fin, mulf_fin, addf_fin, addf_fin,
    sqrt_fin (by nlinarith [mul_self_nonneg (a - d)])]

/-- The two forms of the fraction, where both densities are positive. -/
theorem fraction_real {a d : ℝ} (ha : 0 < a) (hd : 0 < d) :
    rt a d / (2 * a) + 1 / 2 - d / (2 * a) - 1 / (2 * a) = (a - 2 * d + 2) / (2 * (rt a d + 1 + d)) + 1 / 2 := by
  have hs := rt_sq ha hd
  have hp : 0 < rt a d + 1 + d := by linarith [lt_of_le_of_lt (abs_nonneg _) (rt_gt ha hd)]
  generalize rt a d = s at hs hp
  field_simp
  nlinarith [hs]

theorem fraction_real_pos {a d : ℝ} (ha : 0 < a) (hd : 0 < d) : 0 < (a - 2 * d + 2) / (2 * (rt a d + 1 + d)) + 1 / 2 := by
  have hg := rt_gt ha hd
  have h1 := neg_abs_le (a - d)
  have hp : 0 < rt a d + 1 + d := by linarith [lt_of_le_of_lt (abs_nonneg _) hg]
  have e : (a - 2 * d + 2) / (2 * (rt a d + 1 + d)) + 1 / 2 = (a - d + rt a d + 3) / (2 * (rt a d + 1 + d)) := by
    field_simp
    ring
  rw [e]
  exact div_pos (by linarith) (by linarith)

/-- The two programs' fractions agree, and are positive. -/
theorem fraction_eq {S ρ ρ' : ℝ} (hS : 0 < S) (hρ : 0 ≤ ρ) (hρ' : 0 ≤ ρ') : ∃ X : ℝ, 0 < X
    ∧ Lane.fraction (Lane.isZero (fin ρ)) (Lane.isZero (fin ρ')) (fin (sc S ρ)) (fin (sc S ρ')) (fin (rt (sc S ρ) (sc S ρ'))) = fin X
    ∧ RefLane.fraction (Lane.isZero (fin ρ)) (Lane.isZero (fin ρ')) (fin (sc S ρ)) (fin (sc S ρ')) (fin ρ) (fin ρ') = fin X := by
  unfold Lane.fraction RefLane.fraction RefLane.radicand
  have ha := sc_pos hS hρ
  have hd := sc_pos hS hρ'
  simp only [select_isZero]
  by_cases h' : ρ' = 0
  · simp only [if_pos h']
    exact ⟨1, one_pos, one_fin, one_fin⟩
  · simp only [if_neg h']
    by_cases h : ρ = 0
    · simp only [if_pos h]
      refine ⟨1 / sc S ρ', by positivity, ?_, ?_⟩
      · rw [one_fin, zero_fin, divf_fin _ hd.ne', addf_fin, add_zero]
      · rw [one_fin, divf_fin _ hd.ne']
    · simp only [if_neg h]
      have e : sc S ρ = S * ρ := if_neg h
      have e' : sc S ρ' = S * ρ' := if_neg h'
      have hq : ρ' / (2 * ρ) = sc S ρ' / (2 * sc S ρ) := by
        rw [e, e']
        have := hS.ne'
        field_simp
      have hr := fraction_real ha hd
      have hpos := fraction_real_pos ha hd
      have hsq : sc S ρ * sc S ρ - 2 * sc S ρ * (sc S ρ' - 1) + (sc S ρ' + 1) * (sc S ρ' + 1)
          = (sc S ρ - sc S ρ') * (sc S ρ - sc S ρ') + 2 * (sc S ρ + sc S ρ') + 1 := by ring
      have hnn : 0 ≤ (sc S ρ - sc S ρ') * (sc S ρ - sc S ρ') + 2 * (sc S ρ + sc S ρ') + 1 := by
        nlinarith [mul_self_nonneg (sc S ρ - sc S ρ')]
      have hden : 2 * (rt (sc S ρ) (sc S ρ') + 1 + sc S ρ') ≠ 0 := by
        have := lt_of_le_of_lt (abs_nonneg _) (rt_gt ha hd)
        positivity
      refine ⟨_, hpos, ?_, ?_⟩
      · rw [two_fin, one_fin, half_fin, mulf_fin, subf_fin, addf_fin, addf_fin, addf_fin, mulf_fin, divf_fin _ hden, addf_fin]
      · rw [two_fin, one_fin, half_fin, mulf_fin, mulf_fin, subf_fin, mulf_fin, subf_fin, addf_fin, mulf_fin, addf_fin, mulf_fin,
          hsq, sqrt_fin hnn, divf_fin _ (by positivity), addf_fin, divf_fin _ (by positivity), divf_fin _ (by positivity),
          subf_fin, subf_fin, hq, ← hr]
        rfl

/-! ## The terms -/

theorem siteTerm_eq (n : Ideal .f32) {X U : ℝ} (hX : 0 < X) (hU : 0 < U) :
    Lane.siteTerm n (fin X) (fin U) = RefLane.siteTerm n (fin X) (fin U) := by
  unfold Lane.siteTerm RefLane.siteTerm
  rw [one_fin, two_fin, half_fin, subf_fin, mulf_fin, mulf_fin, log_fin (by positivity), subf_fin, divf_fin _ hU.ne',
    divf_fin _ hX.ne', log_fin (by positivity), divf_fin _ two_ne_zero, addf_fin]
  have e : (X - 1) * (1 / 2) - Real.log (U * X) = Real.log (1 / U / X) + (X - 1) / 2 := by
    rw [div_div, one_div (U * X), Real.log_inv]
    ring
  rw [e]

theorem bondTerm_eq (r : Ideal .f32) (ρ2 ρ3 X Y : ℝ) :
    FloatOps.mulf (Lane.bondTerm r (fin ρ2) (fin ρ3) (fin X) (fin Y)) Lane.half = RefLane.bondTerm r (fin ρ2) (fin ρ3) (fin X) (fin Y) := by
  unfold Lane.bondTerm RefLane.bondTerm
  rw [one_fin, two_fin, half_fin, subf_fin, subf_fin, mulf_fin, mulf_fin, addf_fin, divf_fin _ two_ne_zero, divf_fin _ two_ne_zero,
    addf_fin]
  have e : ρ2 * (1 - X) / 2 + ρ3 * (1 - Y) / 2 = (ρ2 * (1 - X) + ρ3 * (1 - Y)) * (1 / 2) := by ring
  rw [e, ← mulf_fin]
  exact mul_assoc (G := EReal) _ _ _

theorem uptake_fin {p q g : ℝ} (hp : 0 < p) (hq : 0 < q) (hg : 0 < g) {ρ X : ℝ} (hρ : 0 ≤ ρ) (hX : 0 < X) : ∃ U : ℝ, 0 < U
    ∧ Lane.uptake (Lane.strength (fin p) (fin q) (fin g)) (fin ρ) (fin X) = fin U
    ∧ RefLane.uptake (Lane.strength (fin p) (fin q) (fin g)) (fin ρ) (fin X) = fin U := by
  refine ⟨1 + p * q * g * ρ * X, by positivity, ?_, ?_⟩
  · unfold Lane.uptake Lane.strength
    rw [one_fin, mulf_fin, mulf_fin, mulf_fin, mulf_fin, addf_fin]
  · unfold RefLane.uptake Lane.strength
    rw [one_fin, mulf_fin, mulf_fin, mulf_fin, mulf_fin, addf_fin]

/-- THE EQUATION. -/
theorem lane_eq {p0 p1 q0 q1 t ρ0 ρ1 ρ2 ρ3 : ℝ} (r n0 n1 : Ideal .f32) (hp0 : 0 < p0) (hp1 : 0 < p1) (hq0 : 0 < q0) (hq1 : 0 < q1)
    (ht : 0 < t) (h0 : 0 ≤ ρ0) (h1 : 0 ≤ ρ1) (h2 : 0 ≤ ρ2) (h3 : 0 ≤ ρ3) :
    Lane.lane (fin p0) (fin p1) (fin q0) (fin q1) (fin t) r n0 n1 (fin ρ0) (fin ρ1) (fin ρ2) (fin ρ3)
      = RefLane.lane (fin p0) (fin p1) (fin q0) (fin q1) (fin t) r n0 n1 (fin ρ0) (fin ρ1) (fin ρ2) (fin ρ3) := by
  obtain ⟨g, hg, eg⟩ := gain_fin ht
  have hst : ∀ p q : ℝ, Lane.strength (fin p) (fin q) (fin g) = fin (p * q * g) := fun p q => by
    unfold Lane.strength
    rw [mulf_fin, mulf_fin]
  have hm : 0 < q0 * q1 * g := by positivity
  have hp : 0 < p0 * p1 * g := by positivity
  obtain ⟨xam, pam, kam, ram⟩ := fraction_eq hm h2 h3
  obtain ⟨xdm, pdm, kdm, rdm⟩ := fraction_eq hm h3 h2
  obtain ⟨xap, pap, kap, rap⟩ := fraction_eq hp h0 h1
  obtain ⟨xdp, pdp, kdp, rdp⟩ := fraction_eq hp h1 h0
  obtain ⟨u, hu, ku, ru⟩ := uptake_fin hp0 hq1 hg h3 pdm
  obtain ⟨w, hw, kw, rw'⟩ := uptake_fin hq0 hp1 hg h2 pam
  rw [rt_comm] at kdm kdp
  unfold Lane.lane RefLane.lane
  simp only [eg, hst q0 q1, hst p0 p1, scaled_fin, root_fin (sc_pos hm h2) (sc_pos hm h3), root_fin (sc_pos hp h0) (sc_pos hp h1),
    kam, kdm, kap, kdp, ram, rdm, rap, rdp, ku, ru, kw, rw', siteTerm_eq n0 pap hu, siteTerm_eq n1 pdp hw, bondTerm_eq]

end Cert.Exact

end
-- ==== Proof.Value.lean ====
/-
  The two programs' results are one array wherever the precondition holds, and with it the value claim.
-/
module

public import proofs.«01_k».proof.Defs
public import proofs.«01_k».proof.Proof.Physical
public import proofs.«01_k».proof.Proof.RefFrame
public import proofs.«01_k».proof.Proof.Array
public import proofs.«01_k».proof.Proof.Equation

@[expose] public section

noncomputable section

namespace Cert.Value

open Idealize.ShloMosaic Idealize.ShloMosaic.TcCoe Idealize.SL.Sem
open Cert.Exact (fin)
open Cert.KernelIdeal.Proof
open Idealize.ShloMosaic.ValueIdx (ix1 ix2)
open Idealize.ShloMosaic.StableHlo (launchContents)

/-- An index that names a species is its own table slot. -/
theorem slot_val (i : BitVec 32) (s : Fin 64) (h : i.toInt = (s.val : ℤ)) : (Lane.slot i).val = s.val := by
  have hs := s.isLt
  have hn : i.toNat = s.val := by
    have := BitVec.toInt_eq_toNat_cond i
    have := i.isLt
    split at * <;> omega
  have hw := Cert.ReferenceIdeal.Proof.wrap_apply i 128#32 s.val h
  unfold Lane.slot
  simp only [hw, hn]
  omega

/-- What two accounts of one run say holds together. -/
theorem both {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val}
    {Q Q' : PUnit × MemSt nD τ sig Val → Prop} (h : θ_run defs p s Q) (h' : θ_run defs p s Q') :
    θ_run defs p s fun r => Q r ∧ Q' r :=
  ⟨fun t ht hf => ⟨h.post t ht hf, h'.post t ht hf⟩, h.progress, h.fair⟩

section Element

variable (m : (ℓ : Loc Cert.KernelIdeal.nD Cert.KernelIdeal.τ Cert.KernelIdeal.sig) → Buf (Elt Ideal) ℓ)
  (h : Cert.Pre_KernelIdeal_physical (hPre_physical := Cert.Physical.facts) m) (c : Dev Cert.KernelIdeal.nD)

/-- The kernel's padded table at the slot of a species holds the entry built from the species's arguments. -/
theorem padded_slot (a : Fin 2) (i : BitVec 32) (s : Fin 64) (hi : i.toInt = (s.val : ℤ)) :
    padded m c a (Lane.slot i) = Lane.entry ((masks m c (ix1 s) : BitVec 1).setWidth 32)
      (energies m c (ix2 s a)) (energiesFixed m c (ix2 s a)) := by
  have hv := slot_val i s hi
  unfold padded
  rw [V_v6_apply m c _ s hv, V_v1_apply m c a _ s hv, V_v3_apply m c a _ s hv]

include h

/-- One entry of the two tables is one positive number. -/
theorem entry_pos (s : Fin 64) (a : Fin 2) : ∃ p : ℝ, 0 < p ∧
    Lane.entry ((masks m c (ix1 s) : BitVec 1).setWidth 32) (energies m c (ix2 s a)) (energiesFixed m c (ix2 s a)) = fin p ∧
    RefLane.entry (masks m c (ix1 s)) (energies m c (ix2 s a)) (energiesFixed m c (ix2 s a)) = fin p := by
  obtain ⟨x, hx⟩ := Physical.energies_fin m h c (ix2 s a)
  obtain ⟨y, hy⟩ := Physical.energiesFixed_fin m h c (ix2 s a)
  rw [hx, hy]
  exact Exact.entry_eq _ x y

variable (V0 : Valuation Cert.ReferenceIdeal.τ Cert.ReferenceIdeal.sig (Elt Ideal))
  (e0 : Cert.ReferenceIdeal.Proof.energies V0 = energies m c)
  (e1 : Cert.ReferenceIdeal.Proof.energiesFixed V0 = energiesFixed m c)
  (e2 : Cert.ReferenceIdeal.Proof.firsts V0 = firsts m c)
  (e3 : Cert.ReferenceIdeal.Proof.seconds V0 = seconds m c)
  (e4 : Cert.ReferenceIdeal.Proof.invTs V0 = invTs m c)
  (e5 : Cert.ReferenceIdeal.Proof.ratios V0 = ratios m c)
  (e7 : Cert.ReferenceIdeal.Proof.amounts V0 = amounts m c)
  (e8 : Cert.ReferenceIdeal.Proof.densities V0 = densities m c)
  (e9 : Cert.ReferenceIdeal.Proof.masks V0 = masks m c)

include e0 e1 e2 e3 e4 e5 e7 e8 e9

theorem result_eq : Cert.ReferenceIdeal.Proof.result V0 = result m c := by
  funext b
  obtain ⟨s₁, h₁⟩ := Physical.firsts_species m h c b
  obtain ⟨s₂, h₂⟩ := Physical.seconds_species m h c b
  obtain ⟨t, ht, et⟩ := Physical.invTs_pos m h c b
  obtain ⟨ρ0, r0, d0⟩ := Physical.densities_nonneg m h c (ix2 (b 0) 0)
  obtain ⟨ρ1, r1, d1⟩ := Physical.densities_nonneg m h c (ix2 (b 0) 1)
  obtain ⟨ρ2, r2, d2⟩ := Physical.densities_nonneg m h c (ix2 (b 0) 2)
  obtain ⟨ρ3, r3, d3⟩ := Physical.densities_nonneg m h c (ix2 (b 0) 3)
  obtain ⟨p0, hp0, kp0, fp0⟩ := entry_pos m h c s₁ 0
  obtain ⟨p1, hp1, kp1, fp1⟩ := entry_pos m h c s₁ 1
  obtain ⟨q0, hq0, kq0, fq0⟩ := entry_pos m h c s₂ 0
  obtain ⟨q1, hq1, kq1, fq1⟩ := entry_pos m h c s₂ 1
  refine (Cert.ReferenceIdeal.Proof.result_apply V0 b s₁ s₂ (e2 ▸ h₁) (e3 ▸ h₂)).trans ?_
  unfold Cert.ReferenceIdeal.Proof.tableAt
  rw [e0, e1, e4, e5, e7, e8, e9]
  refine Eq.trans ?_ (Eq.symm (?_ : result m c b = Lane.lane (fin p0) (fin p1) (fin q0) (fin q1) (fin t) (ratios m c b)
    (amounts m c (ix2 (b 0) 0)) (amounts m c (ix2 (b 0) 1)) (fin ρ0) (fin ρ1) (fin ρ2) (fin ρ3)))
  · refine Eq.trans ?_ (Exact.lane_eq _ _ _ hp0 hp1 hq0 hq1 ht r0 r1 r2 r3).symm
    rw [← fp0, ← fp1, ← fq0, ← fq1, ← et, ← d0, ← d1, ← d2, ← d3]
  · unfold result
    rw [padded_slot m c 0 _ s₁ h₁, padded_slot m c 1 _ s₁ h₁, padded_slot m c 0 _ s₂ h₂, padded_slot m c 1 _ s₂ h₂,
      kp0, kp1, kq0, kq1, et, d0, d1, d2, d3]

end Element

theorem algebraic : Cert.algebraic_KernelIdeal_ReferenceIdeal_pre_physical
    (hKernelIdeal := Cert.KernelIdeal.Gen.facts) (hReferenceIdeal := Cert.ReferenceIdeal.Gen.facts)
    (hPre_physical := Cert.Physical.facts) := by
  intro m g m' g' hpre hargs
  refine ⟨fun c => result m c, ?_, ?_⟩
  · exact (θ_run _ _ _).mono (fun r hr => fun c => ⟨((hr.1.1 c).1 9).trans (arrAt_result m c), hr.2.1 c⟩)
      (both (run_main m g) (run_frame m g))
  · refine (θ_run _ _ _).mono (fun r hr => fun c => ⟨?_, (hr c).2⟩) (Cert.ReferenceIdeal.Value.run (F := Ideal) m' g')
    obtain ⟨e0, e1, e2, e3, e4, e5, e6, e7, e8, e9⟩ := hargs c
    exact (hr c).1.trans (result_eq m hpre c (launchContents m' c) e0 e1 e2 e3 e4 e5 e7 e8 e9)

end Cert.Value

end
-- ==== Proof.lean ====
/-
  The certificate: the three programs end with their arguments as they were and their counters at zero, the idealized
  kernel is the kernel, and over the extended reals the kernel's result is the reference's wherever the arguments are
  physical.
-/
module

public import proofs.«01_k».proof.Defs
public import proofs.«01_k».proof.Proof.KernelFrame
public import proofs.«01_k».proof.Proof.Run
public import proofs.«01_k».proof.Proof.RefFrame
public import proofs.«01_k».proof.Proof.Physical
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Physical.facts,
    Cert.Kernel.Proof.frame,
    fun m g _ => Cert.KernelIdeal.Proof.run_frame m g,
    fun m g _ => Cert.KernelIdeal.Proof.run_frame m g,
    Cert.ReferenceIdeal.Proof.frame,
    fun m g _ => Cert.ReferenceIdeal.Proof.frame m g trivial,
    trivial,
    Cert.Value.algebraic⟩

end Cert.Proof

end
